-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_KernelIdeal [hPre_finite_queries_KernelIdeal : Cert.Pre_finite_queries_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_ReferenceIdeal [hPre_finite_queries_ReferenceIdeal : Cert.Pre_finite_queries_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries_KernelIdeal [hKernelIdeal : Cert.KernelIdeal.Facts] [hPre_finite_queries_KernelIdeal : Cert.Pre_finite_queries_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries_ReferenceIdeal [hReferenceIdeal : Cert.ReferenceIdeal.Facts] [hPre_finite_queries_ReferenceIdeal : Cert.Pre_finite_queries_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_queries_KernelIdeal [hKernelIdeal : Cert.KernelIdeal.Facts] [hReferenceIdeal : Cert.ReferenceIdeal.Facts] [hPre_finite_queries_KernelIdeal : Cert.Pre_finite_queries_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 2, 64]⟩ ⟨4, ![2, 1024, 2, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 2, 64]⟩ ⟨4, ![2, 1024, 2, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_queries_KernelIdeal : Cert.Pre_finite_queries_KernelIdeal.Facts) (hPre_finite_queries_ReferenceIdeal : Cert.Pre_finite_queries_ReferenceIdeal.Facts),
    quiescent_Kernel (hKernel := hKernel)
    ∧ quiescent_KernelIdeal (hKernelIdeal := hKernelIdeal)
    ∧ quiescent_KernelIdeal_pre_finite_queries_KernelIdeal (hKernelIdeal := hKernelIdeal) (hPre_finite_queries_KernelIdeal := hPre_finite_queries_KernelIdeal)
    ∧ quiescent_ReferenceIdeal (hReferenceIdeal := hReferenceIdeal)
    ∧ quiescent_ReferenceIdeal_pre_finite_queries_ReferenceIdeal (hReferenceIdeal := hReferenceIdeal) (hPre_finite_queries_ReferenceIdeal := hPre_finite_queries_ReferenceIdeal)
    ∧ preserves_Kernel_KernelIdeal
    ∧ algebraic_KernelIdeal_ReferenceIdeal_pre_finite_queries_KernelIdeal (hKernelIdeal := hKernelIdeal) (hReferenceIdeal := hReferenceIdeal) (hPre_finite_queries_KernelIdeal := hPre_finite_queries_KernelIdeal)
-- ==== Pre_finite_queries_KernelIdeal.lean ====
abbrev S2x128x512 : Shape := ⟨3, ![2, 128, 512]⟩
abbrev S512x512 : Shape := ⟨2, ![512, 512]⟩
abbrev S2x128x2x64 : Shape := ⟨4, ![2, 128, 2, 64]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S2x128x512 .f32) (main_arg1 : FVec F S512x512 .f32) (main_arg2 : FVec F S2x128x2x64 .f32) (main_arg3 : FVec F S2x128x2x64 .f32) (main_arg4 : FVec F S512x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Pre_finite_queries_ReferenceIdeal.lean ====
abbrev S2x128x512 : Shape := ⟨3, ![2, 128, 512]⟩
abbrev S512x512 : Shape := ⟨2, ![512, 512]⟩
abbrev S2x1024x2x64 : Shape := ⟨4, ![2, 1024, 2, 64]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S2x128x512 .f32) (main_arg1 : FVec F S512x512 .f32) (main_arg2 : FVec F S2x1024x2x64 .f32) (main_arg3 : FVec F S2x1024x2x64 .f32) (main_arg4 : FVec F S512x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S2x128x512 : Shape := ⟨3, ![2, 128, 512]⟩
abbrev S512x512 : Shape := ⟨2, ![512, 512]⟩
abbrev S2x128x2x64 : Shape := ⟨4, ![2, 128, 2, 64]⟩
abbrev S2x128x128 : Shape := ⟨3, ![2, 128, 128]⟩
abbrev S2x1024x128 : Shape := ⟨3, ![2, 1024, 128]⟩
abbrev S4x512x1024 : Shape := ⟨3, ![4, 512, 1024]⟩
abbrev S6 : Shape := ⟨1, ![6]⟩
abbrev S14 : Shape := ⟨1, ![14]⟩
abbrev S1 : Shape := ⟨1, ![1]⟩
abbrev S_ : Shape := ⟨0, ![]⟩
abbrev S256x512 : Shape := ⟨2, ![256, 512]⟩
abbrev S128x512 : Shape := ⟨2, ![128, 512]⟩
abbrev S128x64 : Shape := ⟨2, ![128, 64]⟩
abbrev S512x64 : Shape := ⟨2, ![512, 64]⟩
abbrev S512x1 : Shape := ⟨2, ![512, 1]⟩
abbrev S1x128x64 : Shape := ⟨3, ![1, 128, 64]⟩
abbrev S512x128 : Shape := ⟨2, ![512, 128]⟩
abbrev S512 : Shape := ⟨1, ![512]⟩
abbrev S1x512x128 : Shape := ⟨3, ![1, 512, 128]⟩
abbrev S1x1024x64 : Shape := ⟨3, ![1, 1024, 64]⟩
abbrev S1024x64 : Shape := ⟨2, ![1024, 64]⟩
abbrev S1x512x1024 : Shape := ⟨3, ![1, 512, 1024]⟩
abbrev S512x1024 : Shape := ⟨2, ![512, 1024]⟩
abbrev S1x128x512 : Shape := ⟨3, ![1, 128, 512]⟩

abbrev nBuf : Space → Nat
  | .hbm => 6
  | .vmem => 11
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S2x128x2x64, .f32⟩
  | .hbm, ⟨3, _⟩ => ⟨S2x128x2x64, .f32⟩
  | .hbm, ⟨4, _⟩ => ⟨S512x512, .f32⟩
  | .hbm, ⟨5, _⟩ => ⟨S2x128x512, .bf16⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S2x128x2x64, .f32⟩
  | .local _ .vmem, ⟨4, _⟩ => ⟨S2x128x2x64, .f32⟩
  | .local _ .vmem, ⟨5, _⟩ => ⟨S2x128x512, .bf16⟩
  | .local _ .vmem, ⟨6, _⟩ => ⟨S2x128x128, .i8⟩
  | .local _ .vmem, ⟨7, _⟩ => ⟨S2x128x128, .bf16⟩
  | .local _ .vmem, ⟨8, _⟩ => ⟨S2x1024x128, .i8⟩
  | .local _ .vmem, ⟨9, _⟩ => ⟨S2x1024x128, .bf16⟩
  | .local _ .vmem, ⟨10, _⟩ => ⟨S4x512x1024, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v14 : BitVec 32 := Scalar.addi v2 c1_i32_1
  let c8_i32_2 : BitVec 32 := 8#32
  let c0_i32_3 : BitVec 32 := 0#32
  let v15 : BitVec 1 := Scalar.cmpi .eq c8_i32_2 c0_i32_3
  let c1_i32_4 : BitVec 32 := 1#32
  let v16 : BitVec 32 := Scalar.select v15 c1_i32_4 c8_i32_2
  let v17 : BitVec 32 := Scalar.remsi v14 v16
  let c0_i32_6 : BitVec 32 := 0#32
  let v19 : BitVec 1 := Scalar.cmpi .slt v17 c0_i32_6
  let c0_i32_7 : BitVec 32 := 0#32
  let v20 : BitVec 1 := Scalar.cmpi .slt v16 c0_i32_7
  let v21 : BitVec 1 := Scalar.xori v19 v20
  let c0_i32_5 : BitVec 32 := 0#32
  let v18 : BitVec 1 := Scalar.cmpi .ne v17 c0_i32_5
  let v22 : BitVec 1 := Scalar.andi v21 v18
  let v23 : BitVec 32 := Scalar.addi v17 v16
  let v24 : BitVec 32 := Scalar.select v22 v23 v17
  let c1_i32_9 : BitVec 32 := 1#32
  let v25 : BitVec 32 := Scalar.muli v24 c1_i32_9
  let v26 : BitVec 32 := Scalar.addi c0_i32_10 v25
  v26.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_11 : BitVec 32 := 2#32
  let v27 : BitVec 32 := Scalar.addi v2 c2_i32_11
  let c8_i32_12 : BitVec 32 := 8#32
  let c0_i32_13 : BitVec 32 := 0#32
  let v28 : BitVec 1 := Scalar.cmpi .eq c8_i32_12 c0_i32_13
  let c1_i32_14 : BitVec 32 := 1#32
  let v29 : BitVec 32 := Scalar.select v28 c1_i32_14 c8_i32_12
  let v30 : BitVec 32 := Scalar.remsi v27 v29
  let c0_i32_16 : BitVec 32 := 0#32
  let v32 : BitVec 1 := Scalar.cmpi .slt v30 c0_i32_16
  let c0_i32_17 : BitVec 32 := 0#32
  let v33 : BitVec 1 := Scalar.cmpi .slt v29 c0_i32_17
  let v34 : BitVec 1 := Scalar.xori v32 v33
  let c0_i32_15 : BitVec 32 := 0#32
  let v31 : BitVec 1 := Scalar.cmpi .ne v30 c0_i32_15
  let v35 : BitVec 1 := Scalar.andi v34 v31
  let v36 : BitVec 32 := Scalar.addi v30 v29
  let v37 : BitVec 32 := Scalar.select v35 v36 v30
  let c1_i32_19 : BitVec 32 := 1#32
  let v38 : BitVec 32 := Scalar.muli v37 c1_i32_19
  let v39 : BitVec 32 := Scalar.addi c0_i32_20 v38
  v39.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_21 : BitVec 32 := 3#32
  let v40 : BitVec 32 := Scalar.addi v2 c3_i32_21
  let c8_i32_22 : BitVec 32 := 8#32
  let c0_i32_23 : BitVec 32 := 0#32
  let v41 : BitVec 1 := Scalar.cmpi .eq c8_i32_22 c0_i32_23
  let c1_i32_24 : BitVec 32 := 1#32
  let v42 : BitVec 32 := Scalar.select v41 c1_i32_24 c8_i32_22
  let v43 : BitVec 32 := Scalar.remsi v40 v42
  let c0_i32_26 : BitVec 32 := 0#32
  let v45 : BitVec 1 := Scalar.cmpi .slt v43 c0_i32_26
  let c0_i32_27 : BitVec 32 := 0#32
  let v46 : BitVec 1 := Scalar.cmpi .slt v42 c0_i32_27
  let v47 : BitVec 1 := Scalar.xori v45 v46
  let c0_i32_25 : BitVec 32 := 0#32
  let v44 : BitVec 1 := Scalar.cmpi .ne v43 c0_i32_25
  let v48 : BitVec 1 := Scalar.andi v47 v44
  let v49 : BitVec 32 := Scalar.addi v43 v42
  let v50 : BitVec 32 := Scalar.select v48 v49 v43
  let c1_i32_29 : BitVec 32 := 1#32
  let v51 : BitVec 32 := Scalar.muli v50 c1_i32_29
  let v52 : BitVec 32 := Scalar.addi c0_i32_30 v51
  v52.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_31 : BitVec 32 := 4#32
  let v53 : BitVec 32 := Scalar.addi v2 c4_i32_31
  let c8_i32_32 : BitVec 32 := 8#32
  let c0_i32_33 : BitVec 32 := 0#32
  let v54 : BitVec 1 := Scalar.cmpi .eq c8_i32_32 c0_i32_33
  let c1_i32_34 : BitVec 32 := 1#32
  let v55 : BitVec 32 := Scalar.select v54 c1_i32_34 c8_i32_32
  let v56 : BitVec 32 := Scalar.remsi v53 v55
  let c0_i32_36 : BitVec 32 := 0#32
  let v58 : BitVec 1 := Scalar.cmpi .slt v56 c0_i32_36
  let c0_i32_37 : BitVec 32 := 0#32
  let v59 : BitVec 1 := Scalar.cmpi .slt v55 c0_i32_37
  let v60 : BitVec 1 := Scalar.xori v58 v59
  let c0_i32_35 : BitVec 32 := 0#32
  let v57 : BitVec 1 := Scalar.cmpi .ne v56 c0_i32_35
  let v61 : BitVec 1 := Scalar.andi v60 v57
  let v62 : BitVec 32 := Scalar.addi v56 v55
  let v63 : BitVec 32 := Scalar.select v61 v62 v56
  let c1_i32_39 : BitVec 32 := 1#32
  let v64 : BitVec 32 := Scalar.muli v63 c1_i32_39
  let v65 : BitVec 32 := Scalar.addi c0_i32_40 v64
  v65.toNat
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v66 : BitVec 32 := Scalar.addi v2 c5_i32
  let c8_i32_41 : BitVec 32 := 8#32
  let c0_i32_42 : BitVec 32 := 0#32
  let v67 : BitVec 1 := Scalar.cmpi .eq c8_i32_41 c0_i32_42
  let c1_i32_43 : BitVec 32 := 1#32
  let v68 : BitVec 32 := Scalar.select v67 c1_i32_43 c8_i32_41
  let v69 : BitVec 32 := Scalar.remsi v66 v68
  let c0_i32_45 : BitVec 32 := 0#32
  let v71 : BitVec 1 := Scalar.cmpi .slt v69 c0_i32_45
  let c0_i32_46 : BitVec 32 := 0#32
  let v72 : BitVec 1 := Scalar.cmpi .slt v68 c0_i32_46
  let v73 : BitVec 1 := Scalar.xori v71 v72
  let c0_i32_44 : BitVec 32 := 0#32
  let v70 : BitVec 1 := Scalar.cmpi .ne v69 c0_i32_44
  let v74 : BitVec 1 := Scalar.andi v73 v70
  let v75 : BitVec 32 := Scalar.addi v69 v68
  let v76 : BitVec 32 := Scalar.select v74 v75 v69
  let c1_i32_48 : BitVec 32 := 1#32
  let v77 : BitVec 32 := Scalar.muli v76 c1_i32_48
  let v78 : BitVec 32 := Scalar.addi c0_i32_49 v77
  v78.toNat
def k0_dev6 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v79 : BitVec 32 := Scalar.addi v2 c6_i32
  let c8_i32_50 : BitVec 32 := 8#32
  let c0_i32_51 : BitVec 32 := 0#32
  let v80 : BitVec 1 := Scalar.cmpi .eq c8_i32_50 c0_i32_51
  let c1_i32_52 : BitVec 32 := 1#32
  let v81 : BitVec 32 := Scalar.select v80 c1_i32_52 c8_i32_50
  let v82 : BitVec 32 := Scalar.remsi v79 v81
  let c0_i32_54 : BitVec 32 := 0#32
  let v84 : BitVec 1 := Scalar.cmpi .slt v82 c0_i32_54
  let c0_i32_55 : BitVec 32 := 0#32
  let v85 : BitVec 1 := Scalar.cmpi .slt v81 c0_i32_55
  let v86 : BitVec 1 := Scalar.xori v84 v85
  let c0_i32_53 : BitVec 32 := 0#32
  let v83 : BitVec 1 := Scalar.cmpi .ne v82 c0_i32_53
  let v87 : BitVec 1 := Scalar.andi v86 v83
  let v88 : BitVec 32 := Scalar.addi v82 v81
  let v89 : BitVec 32 := Scalar.select v87 v88 v82
  let c1_i32_57 : BitVec 32 := 1#32
  let v90 : BitVec 32 := Scalar.muli v89 c1_i32_57
  let v91 : BitVec 32 := Scalar.addi c0_i32_58 v90
  v91.toNat
def k0_dev7 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v92 : BitVec 32 := Scalar.addi v2 c7_i32
  let c8_i32_59 : BitVec 32 := 8#32
  let c0_i32_60 : BitVec 32 := 0#32
  let v93 : BitVec 1 := Scalar.cmpi .eq c8_i32_59 c0_i32_60
  let c1_i32_61 : BitVec 32 := 1#32
  let v94 : BitVec 32 := Scalar.select v93 c1_i32_61 c8_i32_59
  let v95 : BitVec 32 := Scalar.remsi v92 v94
  let c0_i32_63 : BitVec 32 := 0#32
  let v97 : BitVec 1 := Scalar.cmpi .slt v95 c0_i32_63
  let c0_i32_64 : BitVec 32 := 0#32
  let v98 : BitVec 1 := Scalar.cmpi .slt v94 c0_i32_64
  let v99 : BitVec 1 := Scalar.xori v97 v98
  let c0_i32_62 : BitVec 32 := 0#32
  let v96 : BitVec 1 := Scalar.cmpi .ne v95 c0_i32_62
  let v100 : BitVec 1 := Scalar.andi v99 v96
  let v101 : BitVec 32 := Scalar.addi v95 v94
  let v102 : BitVec 32 := Scalar.select v100 v101 v95
  let c1_i32_66 : BitVec 32 := 1#32
  let v103 : BitVec 32 := Scalar.muli v102 c1_i32_66
  let v104 : BitVec 32 := Scalar.addi c0_i32_67 v103
  v104.toNat
def k0_dev8 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_95 : BitVec 32 := 1#32
  let v138 : BitVec 32 := Scalar.addi v2 c1_i32_95
  let c8_i32_96 : BitVec 32 := 8#32
  let c0_i32_97 : BitVec 32 := 0#32
  let v139 : BitVec 1 := Scalar.cmpi .eq c8_i32_96 c0_i32_97
  let c1_i32_98 : BitVec 32 := 1#32
  let v140 : BitVec 32 := Scalar.select v139 c1_i32_98 c8_i32_96
  let v141 : BitVec 32 := Scalar.remsi v138 v140
  let c0_i32_100 : BitVec 32 := 0#32
  let v143 : BitVec 1 := Scalar.cmpi .slt v141 c0_i32_100
  let c0_i32_101 : BitVec 32 := 0#32
  let v144 : BitVec 1 := Scalar.cmpi .slt v140 c0_i32_101
  let v145 : BitVec 1 := Scalar.xori v143 v144
  let c0_i32_99 : BitVec 32 := 0#32
  let v142 : BitVec 1 := Scalar.cmpi .ne v141 c0_i32_99
  let v146 : BitVec 1 := Scalar.andi v145 v142
  let v147 : BitVec 32 := Scalar.addi v141 v140
  let v148 : BitVec 32 := Scalar.select v146 v147 v141
  let c1_i32_104 : BitVec 32 := 1#32
  let v149 : BitVec 32 := Scalar.muli v148 c1_i32_104
  let v150 : BitVec 32 := Scalar.addi c0_i32_105 v149
  v150.toNat
def k0_dev9 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_109 : BitVec 32 := 2#32
  let v156 : BitVec 32 := Scalar.addi v2 c2_i32_109
  let c8_i32_110 : BitVec 32 := 8#32
  let c0_i32_111 : BitVec 32 := 0#32
  let v157 : BitVec 1 := Scalar.cmpi .eq c8_i32_110 c0_i32_111
  let c1_i32_112 : BitVec 32 := 1#32
  let v158 : BitVec 32 := Scalar.select v157 c1_i32_112 c8_i32_110
  let v159 : BitVec 32 := Scalar.remsi v156 v158
  let c0_i32_114 : BitVec 32 := 0#32
  let v161 : BitVec 1 := Scalar.cmpi .slt v159 c0_i32_114
  let c0_i32_115 : BitVec 32 := 0#32
  let v162 : BitVec 1 := Scalar.cmpi .slt v158 c0_i32_115
  let v163 : BitVec 1 := Scalar.xori v161 v162
  let c0_i32_113 : BitVec 32 := 0#32
  let v160 : BitVec 1 := Scalar.cmpi .ne v159 c0_i32_113
  let v164 : BitVec 1 := Scalar.andi v163 v160
  let v165 : BitVec 32 := Scalar.addi v159 v158
  let v166 : BitVec 32 := Scalar.select v164 v165 v159
  let c1_i32_118 : BitVec 32 := 1#32
  let v167 : BitVec 32 := Scalar.muli v166 c1_i32_118
  let v168 : BitVec 32 := Scalar.addi c0_i32_119 v167
  v168.toNat
def k0_dev10 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_122 : BitVec 32 := 3#32
  let v174 : BitVec 32 := Scalar.addi v2 c3_i32_122
  let c8_i32_123 : BitVec 32 := 8#32
  let c0_i32_124 : BitVec 32 := 0#32
  let v175 : BitVec 1 := Scalar.cmpi .eq c8_i32_123 c0_i32_124
  let c1_i32_125 : BitVec 32 := 1#32
  let v176 : BitVec 32 := Scalar.select v175 c1_i32_125 c8_i32_123
  let v177 : BitVec 32 := Scalar.remsi v174 v176
  let c0_i32_127 : BitVec 32 := 0#32
  let v179 : BitVec 1 := Scalar.cmpi .slt v177 c0_i32_127
  let c0_i32_128 : BitVec 32 := 0#32
  let v180 : BitVec 1 := Scalar.cmpi .slt v176 c0_i32_128
  let v181 : BitVec 1 := Scalar.xori v179 v180
  let c0_i32_126 : BitVec 32 := 0#32
  let v178 : BitVec 1 := Scalar.cmpi .ne v177 c0_i32_126
  let v182 : BitVec 1 := Scalar.andi v181 v178
  let v183 : BitVec 32 := Scalar.addi v177 v176
  let v184 : BitVec 32 := Scalar.select v182 v183 v177
  let c1_i32_131 : BitVec 32 := 1#32
  let v185 : BitVec 32 := Scalar.muli v184 c1_i32_131
  let v186 : BitVec 32 := Scalar.addi c0_i32_132 v185
  v186.toNat
def k0_dev11 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_135 : BitVec 32 := 4#32
  let v192 : BitVec 32 := Scalar.addi v2 c4_i32_135
  let c8_i32_136 : BitVec 32 := 8#32
  let c0_i32_137 : BitVec 32 := 0#32
  let v193 : BitVec 1 := Scalar.cmpi .eq c8_i32_136 c0_i32_137
  let c1_i32_138 : BitVec 32 := 1#32
  let v194 : BitVec 32 := Scalar.select v193 c1_i32_138 c8_i32_136
  let v195 : BitVec 32 := Scalar.remsi v192 v194
  let c0_i32_140 : BitVec 32 := 0#32
  let v197 : BitVec 1 := Scalar.cmpi .slt v195 c0_i32_140
  let c0_i32_141 : BitVec 32 := 0#32
  let v198 : BitVec 1 := Scalar.cmpi .slt v194 c0_i32_141
  let v199 : BitVec 1 := Scalar.xori v197 v198
  let c0_i32_139 : BitVec 32 := 0#32
  let v196 : BitVec 1 := Scalar.cmpi .ne v195 c0_i32_139
  let v200 : BitVec 1 := Scalar.andi v199 v196
  let v201 : BitVec 32 := Scalar.addi v195 v194
  let v202 : BitVec 32 := Scalar.select v200 v201 v195
  let c1_i32_144 : BitVec 32 := 1#32
  let v203 : BitVec 32 := Scalar.muli v202 c1_i32_144
  let v204 : BitVec 32 := Scalar.addi c0_i32_145 v203
  v204.toNat
def k0_dev12 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_148 : BitVec 32 := 5#32
  let v210 : BitVec 32 := Scalar.addi v2 c5_i32_148
  let c8_i32_149 : BitVec 32 := 8#32
  let c0_i32_150 : BitVec 32 := 0#32
  let v211 : BitVec 1 := Scalar.cmpi .eq c8_i32_149 c0_i32_150
  let c1_i32_151 : BitVec 32 := 1#32
  let v212 : BitVec 32 := Scalar.select v211 c1_i32_151 c8_i32_149
  let v213 : BitVec 32 := Scalar.remsi v210 v212
  let c0_i32_153 : BitVec 32 := 0#32
  let v215 : BitVec 1 := Scalar.cmpi .slt v213 c0_i32_153
  let c0_i32_154 : BitVec 32 := 0#32
  let v216 : BitVec 1 := Scalar.cmpi .slt v212 c0_i32_154
  let v217 : BitVec 1 := Scalar.xori v215 v216
  let c0_i32_152 : BitVec 32 := 0#32
  let v214 : BitVec 1 := Scalar.cmpi .ne v213 c0_i32_152
  let v218 : BitVec 1 := Scalar.andi v217 v214
  let v219 : BitVec 32 := Scalar.addi v213 v212
  let v220 : BitVec 32 := Scalar.select v218 v219 v213
  let c1_i32_157 : BitVec 32 := 1#32
  let v221 : BitVec 32 := Scalar.muli v220 c1_i32_157
  let v222 : BitVec 32 := Scalar.addi c0_i32_158 v221
  v222.toNat
def k0_dev13 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_161 : BitVec 32 := 6#32
  let v228 : BitVec 32 := Scalar.addi v2 c6_i32_161
  let c8_i32_162 : BitVec 32 := 8#32
  let c0_i32_163 : BitVec 32 := 0#32
  let v229 : BitVec 1 := Scalar.cmpi .eq c8_i32_162 c0_i32_163
  let c1_i32_164 : BitVec 32 := 1#32
  let v230 : BitVec 32 := Scalar.select v229 c1_i32_164 c8_i32_162
  let v231 : BitVec 32 := Scalar.remsi v228 v230
  let c0_i32_166 : BitVec 32 := 0#32
  let v233 : BitVec 1 := Scalar.cmpi .slt v231 c0_i32_166
  let c0_i32_167 : BitVec 32 := 0#32
  let v234 : BitVec 1 := Scalar.cmpi .slt v230 c0_i32_167
  let v235 : BitVec 1 := Scalar.xori v233 v234
  let c0_i32_165 : BitVec 32 := 0#32
  let v232 : BitVec 1 := Scalar.cmpi .ne v231 c0_i32_165
  let v236 : BitVec 1 := Scalar.andi v235 v232
  let v237 : BitVec 32 := Scalar.addi v231 v230
  let v238 : BitVec 32 := Scalar.select v236 v237 v231
  let c1_i32_170 : BitVec 32 := 1#32
  let v239 : BitVec 32 := Scalar.muli v238 c1_i32_170
  let v240 : BitVec 32 := Scalar.addi c0_i32_171 v239
  v240.toNat
def k0_dev14 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_174 : BitVec 32 := 7#32
  let v246 : BitVec 32 := Scalar.addi v2 c7_i32_174
  let c8_i32_175 : BitVec 32 := 8#32
  let c0_i32_176 : BitVec 32 := 0#32
  let v247 : BitVec 1 := Scalar.cmpi .eq c8_i32_175 c0_i32_176
  let c1_i32_177 : BitVec 32 := 1#32
  let v248 : BitVec 32 := Scalar.select v247 c1_i32_177 c8_i32_175
  let v249 : BitVec 32 := Scalar.remsi v246 v248
  let c0_i32_179 : BitVec 32 := 0#32
  let v251 : BitVec 1 := Scalar.cmpi .slt v249 c0_i32_179
  let c0_i32_180 : BitVec 32 := 0#32
  let v252 : BitVec 1 := Scalar.cmpi .slt v248 c0_i32_180
  let v253 : BitVec 1 := Scalar.xori v251 v252
  let c0_i32_178 : BitVec 32 := 0#32
  let v250 : BitVec 1 := Scalar.cmpi .ne v249 c0_i32_178
  let v254 : BitVec 1 := Scalar.andi v253 v250
  let v255 : BitVec 32 := Scalar.addi v249 v248
  let v256 : BitVec 32 := Scalar.select v254 v255 v249
  let c1_i32_183 : BitVec 32 := 1#32
  let v257 : BitVec 32 := Scalar.muli v256 c1_i32_183
  let v258 : BitVec 32 := Scalar.addi c0_i32_184 v257
  v258.toNat
def k0_dev15 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_187 : BitVec 32 := 1#32
  let v264 : BitVec 32 := Scalar.addi v2 c1_i32_187
  let c8_i32_188 : BitVec 32 := 8#32
  let c0_i32_189 : BitVec 32 := 0#32
  let v265 : BitVec 1 := Scalar.cmpi .eq c8_i32_188 c0_i32_189
  let c1_i32_190 : BitVec 32 := 1#32
  let v266 : BitVec 32 := Scalar.select v265 c1_i32_190 c8_i32_188
  let v267 : BitVec 32 := Scalar.remsi v264 v266
  let c0_i32_192 : BitVec 32 := 0#32
  let v269 : BitVec 1 := Scalar.cmpi .slt v267 c0_i32_192
  let c0_i32_193 : BitVec 32 := 0#32
  let v270 : BitVec 1 := Scalar.cmpi .slt v266 c0_i32_193
  let v271 : BitVec 1 := Scalar.xori v269 v270
  let c0_i32_191 : BitVec 32 := 0#32
  let v268 : BitVec 1 := Scalar.cmpi .ne v267 c0_i32_191
  let v272 : BitVec 1 := Scalar.andi v271 v268
  let v273 : BitVec 32 := Scalar.addi v267 v266
  let v274 : BitVec 32 := Scalar.select v272 v273 v267
  let c1_i32_196 : BitVec 32 := 1#32
  let v275 : BitVec 32 := Scalar.muli v274 c1_i32_196
  let v276 : BitVec 32 := Scalar.addi c0_i32_197 v275
  v276.toNat
def k0_dev16 (d0 : Dev nD) : Nat :=
  let c0_i32_211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_201 : BitVec 32 := 2#32
  let v282 : BitVec 32 := Scalar.addi v2 c2_i32_201
  let c8_i32_202 : BitVec 32 := 8#32
  let c0_i32_203 : BitVec 32 := 0#32
  let v283 : BitVec 1 := Scalar.cmpi .eq c8_i32_202 c0_i32_203
  let c1_i32_204 : BitVec 32 := 1#32
  let v284 : BitVec 32 := Scalar.select v283 c1_i32_204 c8_i32_202
  let v285 : BitVec 32 := Scalar.remsi v282 v284
  let c0_i32_206 : BitVec 32 := 0#32
  let v287 : BitVec 1 := Scalar.cmpi .slt v285 c0_i32_206
  let c0_i32_207 : BitVec 32 := 0#32
  let v288 : BitVec 1 := Scalar.cmpi .slt v284 c0_i32_207
  let v289 : BitVec 1 := Scalar.xori v287 v288
  let c0_i32_205 : BitVec 32 := 0#32
  let v286 : BitVec 1 := Scalar.cmpi .ne v285 c0_i32_205
  let v290 : BitVec 1 := Scalar.andi v289 v286
  let v291 : BitVec 32 := Scalar.addi v285 v284
  let v292 : BitVec 32 := Scalar.select v290 v291 v285
  let c1_i32_210 : BitVec 32 := 1#32
  let v293 : BitVec 32 := Scalar.muli v292 c1_i32_210
  let v294 : BitVec 32 := Scalar.addi c0_i32_211 v293
  v294.toNat
def k0_dev17 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_215 : BitVec 32 := 3#32
  let v300 : BitVec 32 := Scalar.addi v2 c3_i32_215
  let c8_i32_216 : BitVec 32 := 8#32
  let c0_i32_217 : BitVec 32 := 0#32
  let v301 : BitVec 1 := Scalar.cmpi .eq c8_i32_216 c0_i32_217
  let c1_i32_218 : BitVec 32 := 1#32
  let v302 : BitVec 32 := Scalar.select v301 c1_i32_218 c8_i32_216
  let v303 : BitVec 32 := Scalar.remsi v300 v302
  let c0_i32_220 : BitVec 32 := 0#32
  let v305 : BitVec 1 := Scalar.cmpi .slt v303 c0_i32_220
  let c0_i32_221 : BitVec 32 := 0#32
  let v306 : BitVec 1 := Scalar.cmpi .slt v302 c0_i32_221
  let v307 : BitVec 1 := Scalar.xori v305 v306
  let c0_i32_219 : BitVec 32 := 0#32
  let v304 : BitVec 1 := Scalar.cmpi .ne v303 c0_i32_219
  let v308 : BitVec 1 := Scalar.andi v307 v304
  let v309 : BitVec 32 := Scalar.addi v303 v302
  let v310 : BitVec 32 := Scalar.select v308 v309 v303
  let c1_i32_223 : BitVec 32 := 1#32
  let v311 : BitVec 32 := Scalar.muli v310 c1_i32_223
  let v312 : BitVec 32 := Scalar.addi c0_i32_224 v311
  v312.toNat
def k0_dev18 (d0 : Dev nD) : Nat :=
  let c0_i32_237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_228 : BitVec 32 := 4#32
  let v318 : BitVec 32 := Scalar.addi v2 c4_i32_228
  let c8_i32_229 : BitVec 32 := 8#32
  let c0_i32_230 : BitVec 32 := 0#32
  let v319 : BitVec 1 := Scalar.cmpi .eq c8_i32_229 c0_i32_230
  let c1_i32_231 : BitVec 32 := 1#32
  let v320 : BitVec 32 := Scalar.select v319 c1_i32_231 c8_i32_229
  let v321 : BitVec 32 := Scalar.remsi v318 v320
  let c0_i32_233 : BitVec 32 := 0#32
  let v323 : BitVec 1 := Scalar.cmpi .slt v321 c0_i32_233
  let c0_i32_234 : BitVec 32 := 0#32
  let v324 : BitVec 1 := Scalar.cmpi .slt v320 c0_i32_234
  let v325 : BitVec 1 := Scalar.xori v323 v324
  let c0_i32_232 : BitVec 32 := 0#32
  let v322 : BitVec 1 := Scalar.cmpi .ne v321 c0_i32_232
  let v326 : BitVec 1 := Scalar.andi v325 v322
  let v327 : BitVec 32 := Scalar.addi v321 v320
  let v328 : BitVec 32 := Scalar.select v326 v327 v321
  let c1_i32_236 : BitVec 32 := 1#32
  let v329 : BitVec 32 := Scalar.muli v328 c1_i32_236
  let v330 : BitVec 32 := Scalar.addi c0_i32_237 v329
  v330.toNat
def k0_dev19 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_241 : BitVec 32 := 5#32
  let v336 : BitVec 32 := Scalar.addi v2 c5_i32_241
  let c8_i32_242 : BitVec 32 := 8#32
  let c0_i32_243 : BitVec 32 := 0#32
  let v337 : BitVec 1 := Scalar.cmpi .eq c8_i32_242 c0_i32_243
  let c1_i32_244 : BitVec 32 := 1#32
  let v338 : BitVec 32 := Scalar.select v337 c1_i32_244 c8_i32_242
  let v339 : BitVec 32 := Scalar.remsi v336 v338
  let c0_i32_246 : BitVec 32 := 0#32
  let v341 : BitVec 1 := Scalar.cmpi .slt v339 c0_i32_246
  let c0_i32_247 : BitVec 32 := 0#32
  let v342 : BitVec 1 := Scalar.cmpi .slt v338 c0_i32_247
  let v343 : BitVec 1 := Scalar.xori v341 v342
  let c0_i32_245 : BitVec 32 := 0#32
  let v340 : BitVec 1 := Scalar.cmpi .ne v339 c0_i32_245
  let v344 : BitVec 1 := Scalar.andi v343 v340
  let v345 : BitVec 32 := Scalar.addi v339 v338
  let v346 : BitVec 32 := Scalar.select v344 v345 v339
  let c1_i32_249 : BitVec 32 := 1#32
  let v347 : BitVec 32 := Scalar.muli v346 c1_i32_249
  let v348 : BitVec 32 := Scalar.addi c0_i32_250 v347
  v348.toNat
def k0_dev20 (d0 : Dev nD) : Nat :=
  let c0_i32_263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_254 : BitVec 32 := 6#32
  let v354 : BitVec 32 := Scalar.addi v2 c6_i32_254
  let c8_i32_255 : BitVec 32 := 8#32
  let c0_i32_256 : BitVec 32 := 0#32
  let v355 : BitVec 1 := Scalar.cmpi .eq c8_i32_255 c0_i32_256
  let c1_i32_257 : BitVec 32 := 1#32
  let v356 : BitVec 32 := Scalar.select v355 c1_i32_257 c8_i32_255
  let v357 : BitVec 32 := Scalar.remsi v354 v356
  let c0_i32_259 : BitVec 32 := 0#32
  let v359 : BitVec 1 := Scalar.cmpi .slt v357 c0_i32_259
  let c0_i32_260 : BitVec 32 := 0#32
  let v360 : BitVec 1 := Scalar.cmpi .slt v356 c0_i32_260
  let v361 : BitVec 1 := Scalar.xori v359 v360
  let c0_i32_258 : BitVec 32 := 0#32
  let v358 : BitVec 1 := Scalar.cmpi .ne v357 c0_i32_258
  let v362 : BitVec 1 := Scalar.andi v361 v358
  let v363 : BitVec 32 := Scalar.addi v357 v356
  let v364 : BitVec 32 := Scalar.select v362 v363 v357
  let c1_i32_262 : BitVec 32 := 1#32
  let v365 : BitVec 32 := Scalar.muli v364 c1_i32_262
  let v366 : BitVec 32 := Scalar.addi c0_i32_263 v365
  v366.toNat
def k0_dev21 (d0 : Dev nD) : Nat :=
  let c0_i32_276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_267 : BitVec 32 := 7#32
  let v372 : BitVec 32 := Scalar.addi v2 c7_i32_267
  let c8_i32_268 : BitVec 32 := 8#32
  let c0_i32_269 : BitVec 32 := 0#32
  let v373 : BitVec 1 := Scalar.cmpi .eq c8_i32_268 c0_i32_269
  let c1_i32_270 : BitVec 32 := 1#32
  let v374 : BitVec 32 := Scalar.select v373 c1_i32_270 c8_i32_268
  let v375 : BitVec 32 := Scalar.remsi v372 v374
  let c0_i32_272 : BitVec 32 := 0#32
  let v377 : BitVec 1 := Scalar.cmpi .slt v375 c0_i32_272
  let c0_i32_273 : BitVec 32 := 0#32
  let v378 : BitVec 1 := Scalar.cmpi .slt v374 c0_i32_273
  let v379 : BitVec 1 := Scalar.xori v377 v378
  let c0_i32_271 : BitVec 32 := 0#32
  let v376 : BitVec 1 := Scalar.cmpi .ne v375 c0_i32_271
  let v380 : BitVec 1 := Scalar.andi v379 v376
  let v381 : BitVec 32 := Scalar.addi v375 v374
  let v382 : BitVec 32 := Scalar.select v380 v381 v375
  let c1_i32_275 : BitVec 32 := 1#32
  let v383 : BitVec 32 := Scalar.muli v382 c1_i32_275
  let v384 : BitVec 32 := Scalar.addi c0_i32_276 v383
  v384.toNat
-- ==== ReferenceIdeal.lean ====
abbrev S2x128x512 : Shape := ⟨3, ![2, 128, 512]⟩
abbrev S512x512 : Shape := ⟨2, ![512, 512]⟩
abbrev S2x1024x2x64 : Shape := ⟨4, ![2, 1024, 2, 64]⟩
abbrev S256x512 : Shape := ⟨2, ![256, 512]⟩
abbrev S2x128x8x64 : Shape := ⟨4, ![2, 128, 8, 64]⟩
abbrev S_ : Shape := ⟨0, ![]⟩
abbrev S2x1024x2x4x64 : Shape := ⟨5, ![2, 1024, 2, 4, 64]⟩
abbrev S2x1024x8x64 : Shape := ⟨4, ![2, 1024, 8, 64]⟩
abbrev S2x8x128x1024 : Shape := ⟨4, ![2, 8, 128, 1024]⟩
abbrev S2x8x128 : Shape := ⟨3, ![2, 8, 128]⟩
abbrev S2x8x128x1 : Shape := ⟨4, ![2, 8, 128, 1]⟩
abbrev S2x8x64x128 : Shape := ⟨4, ![2, 8, 64, 128]⟩
abbrev S2x128x8x1 : Shape := ⟨4, ![2, 128, 8, 1]⟩

abbrev nBuf : Space → Nat
  | .hbm => 48
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S2x1024x2x64, .f32⟩
  | .hbm, ⟨3, _⟩ => ⟨S2x1024x2x64, .f32⟩
  | .hbm, ⟨4, _⟩ => ⟨S512x512, .f32⟩
  | .hbm, ⟨5, _⟩ => ⟨S256x512, .f32⟩
  | .hbm, ⟨6, _⟩ => ⟨S256x512, .f32⟩
  | .hbm, ⟨7, _⟩ => ⟨S2x128x8x64, .f32⟩
  | .hbm, ⟨8, _⟩ => ⟨S_, .f32⟩
  | .hbm, ⟨9, _⟩ => ⟨S2x1024x2x64, .f32⟩
  | .hbm, ⟨10, _⟩ => ⟨S2x1024x2x64, .f32⟩
  | .hbm, ⟨11, _⟩ => ⟨S_, .i32⟩
  | .hbm, ⟨12, _⟩ => ⟨S_, .i32⟩
  | .hbm, ⟨13, _⟩ => ⟨S_, .f32⟩
  | .hbm, ⟨14, _⟩ => ⟨S2x1024x2x64, .f32⟩
  | .hbm, ⟨15, _⟩ => ⟨S2x1024x2x64, .f32⟩
  | .hbm, ⟨16, _⟩ => ⟨S_, .f32⟩
  | .hbm, ⟨17, _⟩ => ⟨S2x1024x2x64, .f32⟩
  | .hbm, ⟨18, _⟩ => ⟨S2x1024x2x64, .f32⟩
  | .hbm, ⟨19, _⟩ => ⟨S2x1024x2x64, .f32⟩
  | .hbm, ⟨20, _⟩ => ⟨S_, .f32⟩
  | .hbm, ⟨21, _⟩ => ⟨S2x1024x2x64, .f32⟩
  | .hbm, ⟨22, _⟩ => ⟨S2x1024x2x64, .f32⟩
  | .hbm, ⟨23, _⟩ => ⟨S2x1024x2x4x64, .f32⟩
  | .hbm, ⟨24, _⟩ => ⟨S2x1024x8x64, .f32⟩
  | .hbm, ⟨25, _⟩ => ⟨S2x1024x2x4x64, .f32⟩
  | .hbm, ⟨26, _⟩ => ⟨S2x1024x8x64, .f32⟩
  | .hbm, ⟨27, _⟩ => ⟨S2x8x128x1024, .f32⟩
  | .hbm, ⟨28, _⟩ => ⟨S_, .f32⟩
  | .hbm, ⟨29, _⟩ => ⟨S2x8x128x1024, .f32⟩
  | .hbm, ⟨30, _⟩ => ⟨S2x8x128x1024, .f32⟩
  | .hbm, ⟨31, _⟩ => ⟨S_, .f32⟩
  | .hbm, ⟨32, _⟩ => ⟨S2x8x128, .f32⟩
  | .hbm, ⟨33, _⟩ => ⟨S2x8x128x1, .f32⟩
  | .hbm, ⟨34, _⟩ => ⟨S2x8x128x1024, .f32⟩
  | .hbm, ⟨35, _⟩ => ⟨S2x8x128x1024, .f32⟩
  | .hbm, ⟨36, _⟩ => ⟨S2x8x128x1024, .f32⟩
  | .hbm, ⟨37, _⟩ => ⟨S_, .f32⟩
  | .hbm, ⟨38, _⟩ => ⟨S2x8x128, .f32⟩
  | .hbm, ⟨39, _⟩ => ⟨S2x8x128x1, .f32⟩
  | .hbm, ⟨40, _⟩ => ⟨S2x8x64x128, .f32⟩
  | .hbm, ⟨41, _⟩ => ⟨S2x128x8x64, .f32⟩
  | .hbm, ⟨42, _⟩ => ⟨S2x128x8x1, .f32⟩
  | .hbm, ⟨43, _⟩ => ⟨S2x128x8x64, .f32⟩
  | .hbm, ⟨44, _⟩ => ⟨S2x128x8x64, .f32⟩
  | .hbm, ⟨45, _⟩ => ⟨S2x128x512, .f32⟩
  | .hbm, ⟨46, _⟩ => ⟨S2x128x512, .f32⟩
  | .hbm, ⟨47, _⟩ => ⟨S2x128x512, .bf16⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Proof.IdealBody.lean ====
/- The kernel body written once more, compactly: the same operations in the same order, with the repeated
   stretches as loops over the seven offsets, the eight slots and the four (batch, key head) pairs. `body_eq` is the
   statement that it is the printed body. -/
module

public import Idealize.ShloMosaic.Lib.Pipeline.Launch
public import Idealize.ShloMosaic.Lib.Pipeline.Kit
public import Idealize.ShloMosaic.Lib.ShareLeaves
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

set_option maxRecDepth 16000

noncomputable section

namespace Cert.KernelIdeal.Coll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Semaphores and views -/

/-- The barrier semaphore every device's neighbours signal. -/
abbrev barS : Sem sig := (SemArray.scalar (sig.barrier 0 rfl) : Sems sig S_).sem

/-- The DMA semaphore at index `i` of the 34. -/
abbrev dsem (i : Fin 34) : DmaSem sig := i

/-- The semaphore a K shard's (`v = 0`) or V shard's (`v = 1`) copy signals at its source when offset `o + 1` has left. -/
abbrev sendS (v : Fin 2) (o : Fin 7) : DmaSem sig := dsem ⟨6 + 7 * v.val + o.val, by omega⟩

/-- The semaphore the K or V shard landing in slot `o` signals. -/
abbrev recvS (v : Fin 2) (o : Fin 7) : DmaSem sig := dsem ⟨20 + 7 * v.val + o.val, by omega⟩

theorem slot_inb (s : Fin 8) : ∀ a, (![0, 128 * s.val, 0] : Fin 3 → Nat) a + S2x128x128.size a ≤ S2x1024x128.size a := by
  revert s; decide

/-- Slot `s` of a gathered array: its rows `[128 s, 128 s + 128)`. -/
abbrev slotR (s : Fin 8) : Rect S2x1024x128 := Rect.unit (s := S2x1024x128) ![0, 128 * s.val, 0] S2x128x128.size (slot_inb s)

theorem slot_words_i8 (s : Fin 8) : (slotR s).WholeWords (EltTy.packing .i8) := by revert s; decide
theorem slot_words_bf16 (s : Fin 8) : (slotR s).WholeWords (EltTy.packing .bf16) := by revert s; decide

/-- The buffer of weights. -/
abbrev pM : Memref sig .tc .vmem S4x512x1024 .bf16 := Memref.whole cc0_scratch10

/-- The two gathered arrays and their stages, by element type. -/
abbrev kG : Memref sig .tc .vmem S2x1024x128 .i8 := Memref.whole cc0_scratch8
abbrev vG : Memref sig .tc .vmem S2x1024x128 .bf16 := Memref.whole cc0_scratch9
abbrev kS : Memref sig .tc .vmem S2x128x128 .i8 := Memref.whole cc0_scratch6
abbrev vS : Memref sig .tc .vmem S2x128x128 .bf16 := Memref.whole cc0_scratch7

/-- Slot `s` of the gathered K, and of the gathered V. -/
abbrev kSlot (s : Fin 8) : Memref sig .tc .vmem S2x128x128 .i8 := kG.slice (slotR s) (fun _ => rfl)
abbrev vSlot (s : Fin 8) : Memref sig .tc .vmem S2x128x128 .bf16 := vG.slice (slotR s) (fun _ => rfl)

theorem kSlot_words (s : Fin 8) : (kSlot s).view.WordExact :=
  (Memref.isWhole_whole cc0_scratch8).wordExact_slice rfl _ (slot_words_i8 s)
theorem vSlot_words (s : Fin 8) : (vSlot s).view.WordExact :=
  (Memref.isWhole_whole cc0_scratch9).wordExact_slice rfl _ (slot_words_bf16 s)

/-- The slot offset `o + 1`'s copy lands in. -/
abbrev os (o : Fin 7) : Fin 8 := ⟨o.val, by omega⟩

/-- The batch and the key head of the pair `j`. -/
abbrev bOf (j : Fin 4) : ℕ := j.val / 2
abbrev kOf (j : Fin 4) : ℕ := j.val % 2

theorem kb_inb (s : Fin 8) (j : Fin 4) :
    ∀ a, (![bOf j, 128 * s.val, 64 * kOf j] : Fin 3 → Nat) a + S1x128x64.size a ≤ S2x1024x128.size a := by
  revert s j; decide

/-- The key block of slot `s` and pair `j`: batch `j / 2`, the slot's rows, the columns of key head `j % 2`. -/
abbrev kbR (s : Fin 8) (j : Fin 4) : Rect S2x1024x128 :=
  Rect.unit (s := S2x1024x128) ![bOf j, 128 * s.val, 64 * kOf j] S1x128x64.size (kb_inb s j)

theorem p_inb (s : Fin 8) (j : Fin 4) :
    ∀ a, (![j.val, 0, 128 * s.val] : Fin 3 → Nat) a + S1x512x128.size a ≤ S4x512x1024.size a := by
  revert s j; decide

/-- The block of weights of slot `s` and pair `j`. -/
abbrev pR (s : Fin 8) (j : Fin 4) : Rect S4x512x1024 :=
  Rect.unit (s := S4x512x1024) ![j.val, 0, 128 * s.val] S1x512x128.size (p_inb s j)

theorem p_packed (s : Fin 8) (j : Fin 4) : (pR s j).PackedRows (EltTy.packing .bf16) := by
  revert s j; decide

/-- The device the `o`-th signal, K copy and V copy address. -/
def sigDev (d : Dev nD) : Fin 7 → Dev nD :=
  ![⟨k0_dev1 d, k0_dev1_lt d⟩, ⟨k0_dev2 d, k0_dev2_lt d⟩, ⟨k0_dev3 d, k0_dev3_lt d⟩, ⟨k0_dev4 d, k0_dev4_lt d⟩,
    ⟨k0_dev5 d, k0_dev5_lt d⟩, ⟨k0_dev6 d, k0_dev6_lt d⟩, ⟨k0_dev7 d, k0_dev7_lt d⟩]
def kDev (d : Dev nD) : Fin 7 → Dev nD :=
  ![⟨k0_dev8 d, k0_dev8_lt d⟩, ⟨k0_dev9 d, k0_dev9_lt d⟩, ⟨k0_dev10 d, k0_dev10_lt d⟩, ⟨k0_dev11 d, k0_dev11_lt d⟩,
    ⟨k0_dev12 d, k0_dev12_lt d⟩, ⟨k0_dev13 d, k0_dev13_lt d⟩, ⟨k0_dev14 d, k0_dev14_lt d⟩]
def vDev (d : Dev nD) : Fin 7 → Dev nD :=
  ![⟨k0_dev15 d, k0_dev15_lt d⟩, ⟨k0_dev16 d, k0_dev16_lt d⟩, ⟨k0_dev17 d, k0_dev17_lt d⟩, ⟨k0_dev18 d, k0_dev18_lt d⟩,
    ⟨k0_dev19 d, k0_dev19_lt d⟩, ⟨k0_dev20 d, k0_dev20_lt d⟩, ⟨k0_dev21 d, k0_dev21_lt d⟩]

/-- The device `o + 1` places after `d`: where `d`'s copies of offset `o + 1` go. -/
def peer (d : Dev nD) (o : Fin 7) : Dev nD := ⟨(d.val + o.val + 1) % 8, Nat.mod_lt _ (by decide)⟩

theorem sigDev_eq (d : Dev nD) (o : Fin 7) : sigDev d o = peer d o := by revert d o; decide +kernel
theorem kDev_eq (d : Dev nD) (o : Fin 7) : kDev d o = peer d o := by revert d o; decide +kernel
theorem vDev_eq (d : Dev nD) (o : Fin 7) : vDev d o = peer d o := by revert d o; decide +kernel

/-! ## The pieces of the program -/

variable (F) in
/-- A program of the kernel's thread. -/
abbrev P (α : Type) := Prog (TpuEff nD τ sig (Elt F) Λ₀ .tc) α

/-- `f` at each entry of a list, in order. -/
def forL {ι : Type} (f : ι → P F PUnit) : List ι → P F PUnit
  | [] => pure ⟨⟩
  | i :: l => do f i; forL f l

/-- The offsets in order. -/
abbrev offs : List (Fin 7) := [0, 1, 2, 3, 4, 5, 6]

/-- Signal the device `o + 1` places on. -/
def sigStep (d : Dev nD) (o : Fin 7) : P F PUnit := semSignalWord (sigDev d o) barS 1#32

/-- Send the K stage to slot `o` of the device `o + 1` places on; and the V stage. -/
def sendK (d : Dev nD) (o : Fin 7) : P F PUnit :=
  Prog.lift (.enqueueDma kS (.remote (Dev.tc (kDev d o)) (kSlot (os o)) (.dma (sendS 0 o))) (.dma (recvS 0 o))
    (Memref.isWhole_whole cc0_scratch6).wordExact (kSlot_words (os o)) ⟨⟨rfl, Or.inl rfl⟩, trivial⟩)
def sendV (d : Dev nD) (o : Fin 7) : P F PUnit :=
  Prog.lift (.enqueueDma vS (.remote (Dev.tc (vDev d o)) (vSlot (os o)) (.dma (sendS 1 o))) (.dma (recvS 1 o))
    (Memref.isWhole_whole cc0_scratch7).wordExact (vSlot_words (os o)) ⟨⟨rfl, Or.inl rfl⟩, trivial⟩)

/-- Wait for slot `o` to have arrived. -/
def recvK (o : Fin 7) : P F PUnit :=
  Prog.lift (.waitDma2 (recvS 0 o) kS (kSlot (os o)) (Memref.isWhole_whole cc0_scratch6).wordExact (kSlot_words (os o)))
def recvV (o : Fin 7) : P F PUnit :=
  Prog.lift (.waitDma2 (recvS 1 o) vS (vSlot (os o)) (Memref.isWhole_whole cc0_scratch7).wordExact (vSlot_words (os o)))

/-- Wait for the copies of offset `o + 1` to have left. -/
def sentK (o : Fin 7) : P F PUnit :=
  Prog.lift (.waitDma2 (sendS 0 o) (kSlot (os o)) kS (kSlot_words (os o)) (Memref.isWhole_whole cc0_scratch6).wordExact)
def sentV (o : Fin 7) : P F PUnit :=
  Prog.lift (.waitDma2 (sendS 1 o) (vSlot (os o)) vS (vSlot_words (os o)) (Memref.isWhole_whole cc0_scratch7).wordExact)

/-- The scores' block of one slot and pair: the weights stored, and what the sums of weights grow by. -/
def scoreStep (s : Fin 8) (j : Fin 4) (q : FVec F S512x64 .bf16) : P F (Vec F S1x128x64 .i8) := do
  let kb : Vec F S1x128x64 .i8 ← Prog.lift (.load kG (kbR s j).toLoadRect (View.loadsAt_vmem h_S1x128x64))
  let _u : Vec F S1x512x128 .bf16 ← Prog.lift (.load pM (pR s j).toLoadRect (View.loadsAt_vmem h_S1x512x128))
  Prog.lift (.store pM (pR s j) (k0_pay19 q kb) Finset.univ
    (View.stores_vmem h_S1x512x128 ((Memref.isWhole_whole cc0_scratch10).storeExact_slice rfl _ (p_packed s j)) (fun _ => rfl)) (.inl rfl))
  pure kb

/-- All four pairs of one slot: the sums of weights, updated. -/
def score (s : Fin 8) (q : Fin 4 → FVec F S512x64 .bf16) (l : Fin 4 → FVec F S512x1 .f32) : P F (Fin 4 → FVec F S512x1 .f32) := do
  let k0 ← scoreStep s 0 (q 0)
  let k1 ← scoreStep s 1 (q 1)
  let k2 ← scoreStep s 2 (q 2)
  let k3 ← scoreStep s 3 (q 3)
  pure ![k0_pay18 (q 0) (l 0) k0, k0_pay18 (q 1) (l 1) k1, k0_pay18 (q 2) (l 2) k2, k0_pay18 (q 3) (l 3) k3]

/-- The arriving slots in the order they are used, each waited for and scored. -/
def scores (q : Fin 4 → FVec F S512x64 .bf16) : List (Fin 7) → (Fin 4 → FVec F S512x1 .f32) → P F (Fin 4 → FVec F S512x1 .f32)
  | [], l => pure l
  | o :: os', l => do
    recvK o
    let l' ← score (os o) q l
    scores q os' l'

/-- The order the arriving slots are scored in. -/
abbrev arr : List (Fin 7) := [0, 2, 3, 1, 4, 6, 5]

/-- The arguments' and the result's buffers, and the buffers they are staged in. -/
abbrev xH : Memref sig .tc .hbm S2x128x512 .f32 := Memref.whole main_arg0
abbrev wqH : Memref sig .tc .hbm S512x512 .f32 := Memref.whole main_arg1
abbrev kH : Memref sig .tc .hbm S2x128x2x64 .f32 := Memref.whole main_arg2
abbrev vH : Memref sig .tc .hbm S2x128x2x64 .f32 := Memref.whole main_arg3
abbrev woH : Memref sig .tc .hbm S512x512 .f32 := Memref.whole main_arg4
abbrev oH : Memref sig .tc .hbm S2x128x512 .bf16 := Memref.whole main_v1
abbrev xM : Memref sig .tc .vmem S2x128x512 .f32 := Memref.whole cc0_scratch0
abbrev wqM : Memref sig .tc .vmem S512x512 .f32 := Memref.whole cc0_scratch1
abbrev woM : Memref sig .tc .vmem S512x512 .f32 := Memref.whole cc0_scratch2
abbrev kM : Memref sig .tc .vmem S2x128x2x64 .f32 := Memref.whole cc0_scratch3
abbrev vM : Memref sig .tc .vmem S2x128x2x64 .f32 := Memref.whole cc0_scratch4
abbrev oM : Memref sig .tc .vmem S2x128x512 .bf16 := Memref.whole cc0_scratch5

/-- Start a copy of `src` into `dst` within the device, on semaphore `i`; and wait for it. -/
def cpStart {sp sp' : Space} {s : Shape} {e : EltTy} (i : Fin 34) (src : Memref sig .tc sp s e) (dst : Memref sig .tc sp' s e)
    (hs : src.view.WordExact) (hd : dst.view.WordExact)
    (ht : (DmaTarget.here dst : DmaTarget nD τ sig .tc sp' s e).Typed sp (.dma (dsem i))) : P F PUnit :=
  Prog.lift (.enqueueDma src (.here dst) (.dma (dsem i)) hs hd ht)
def cpWait {sp sp' : Space} {s : Shape} {e : EltTy} (i : Fin 34) (src : Memref sig .tc sp s e) (dst : Memref sig .tc sp' s e)
    (hs : src.view.WordExact) (hd : dst.view.WordExact) : P F PUnit :=
  Prog.lift (.waitDma2 (dsem i) src dst hs hd)

/-! ## The phases -/

/-- The inputs' copies start, and every other device is signalled. -/
def phStart (d : Dev nD) : P F PUnit := do
  cpStart 0 kH kM (Memref.isWhole_whole _).wordExact (Memref.isWhole_whole _).wordExact ⟨Or.inl rfl, trivial⟩
  cpStart 1 vH vM (Memref.isWhole_whole _).wordExact (Memref.isWhole_whole _).wordExact ⟨Or.inl rfl, trivial⟩
  cpStart 2 xH xM (Memref.isWhole_whole _).wordExact (Memref.isWhole_whole _).wordExact ⟨Or.inl rfl, trivial⟩
  cpStart 3 wqH wqM (Memref.isWhole_whole _).wordExact (Memref.isWhole_whole _).wordExact ⟨Or.inl rfl, trivial⟩
  cpStart 4 woH woM (Memref.isWhole_whole _).wordExact (Memref.isWhole_whole _).wordExact ⟨Or.inl rfl, trivial⟩
  forL (sigStep d) offs

/-- The K and V shards are staged and put in the device's own slot. -/
def phStage : P F PUnit := do
  cpWait 0 kH kM (Memref.isWhole_whole _).wordExact (Memref.isWhole_whole _).wordExact
  cpWait 1 vH vM (Memref.isWhole_whole _).wordExact (Memref.isWhole_whole _).wordExact
  let a : Vec F S2x128x2x64 .f32 ← Prog.lift (.load kM (Rect.unit (s := S2x128x2x64) ![0, 0, 0, 0] S2x128x2x64.size inb_S2x128x2x64_S2x128x2x64_0_0_0_0).toLoadRect (View.loadsAt_vmem h_S2x128x2x64))
  let _u : Vec F S2x128x128 .i8 ← Prog.lift (.load kS (Rect.unit (s := S2x128x128) ![0, 0, 0] S2x128x128.size inb_S2x128x128_S2x128x128_0_0_0).toLoadRect (View.loadsAt_vmem h_S2x128x128))
  Prog.lift (.store kS (Rect.unit (s := S2x128x128) ![0, 0, 0] S2x128x128.size inb_S2x128x128_S2x128x128_0_0_0) (k0_pay1 a) Finset.univ (View.stores_vmem h_S2x128x128 ((Memref.isWhole_whole cc0_scratch6).storeExact_slice rfl _ packedi8_S2x128x128_S2x128x128_0_0_0) (fun _ => rfl)) (.inl rfl))
  let b : Vec F S2x128x2x64 .f32 ← Prog.lift (.load vM (Rect.unit (s := S2x128x2x64) ![0, 0, 0, 0] S2x128x2x64.size inb_S2x128x2x64_S2x128x2x64_0_0_0_0).toLoadRect (View.loadsAt_vmem h_S2x128x2x64))
  let _u : Vec F S2x128x128 .bf16 ← Prog.lift (.load vS (Rect.unit (s := S2x128x128) ![0, 0, 0] S2x128x128.size inb_S2x128x128_S2x128x128_0_0_0).toLoadRect (View.loadsAt_vmem h_S2x128x128))
  Prog.lift (.store vS (Rect.unit (s := S2x128x128) ![0, 0, 0] S2x128x128.size inb_S2x128x128_S2x128x128_0_0_0) (k0_pay3 (k0_pay2 b)) Finset.univ (View.stores_vmem h_S2x128x128 ((Memref.isWhole_whole cc0_scratch7).storeExact_slice rfl _ packedbf16_S2x128x128_S2x128x128_0_0_0) (fun _ => rfl)) (.inl rfl))
  let a' : Vec F S2x128x128 .i8 ← Prog.lift (.load kS (Rect.unit (s := S2x128x128) ![0, 0, 0] S2x128x128.size inb_S2x128x128_S2x128x128_0_0_0).toLoadRect (View.loadsAt_vmem h_S2x128x128))
  let _u : Vec F S2x128x128 .i8 ← Prog.lift (.load kG (slotR 7).toLoadRect (View.loadsAt_vmem h_S2x128x128))
  Prog.lift (.store kG (slotR 7) (k0_pay4 a') Finset.univ (View.stores_vmem h_S2x128x128 ((Memref.isWhole_whole cc0_scratch8).storeExact_slice rfl _ packedi8_S2x1024x128_S2x128x128_0_896_0) (fun _ => rfl)) (.inl rfl))
  let b' : Vec F S2x128x128 .bf16 ← Prog.lift (.load vS (Rect.unit (s := S2x128x128) ![0, 0, 0] S2x128x128.size inb_S2x128x128_S2x128x128_0_0_0).toLoadRect (View.loadsAt_vmem h_S2x128x128))
  let _u : Vec F S2x128x128 .bf16 ← Prog.lift (.load vG (slotR 7).toLoadRect (View.loadsAt_vmem h_S2x128x128))
  Prog.lift (.store vG (slotR 7) (k0_pay5 b') Finset.univ (View.stores_vmem h_S2x128x128 ((Memref.isWhole_whole cc0_scratch9).storeExact_slice rfl _ packedbf16_S2x1024x128_S2x128x128_0_896_0) (fun _ => rfl)) (.inl rfl))

/-- Every other device is ready; the shards are sent. -/
def phSend (d : Dev nD) : P F PUnit := do
  semWaitWord barS 7#32
  forL (sendK d) offs
  forL (sendV d) offs

/-- The stacked queries. -/
def phQ : P F (Fin 4 → FVec F S512x64 .bf16) := do
  cpWait 2 xH xM (Memref.isWhole_whole _).wordExact (Memref.isWhole_whole _).wordExact
  cpWait 3 wqH wqM (Memref.isWhole_whole _).wordExact (Memref.isWhole_whole _).wordExact
  let x : Vec F S2x128x512 .f32 ← Prog.lift (.load xM (Rect.unit (s := S2x128x512) ![0, 0, 0] S2x128x512.size inb_S2x128x512_S2x128x512_0_0_0).toLoadRect (View.loadsAt_vmem h_S2x128x512))
  let w : Vec F S512x512 .f32 ← Prog.lift (.load wqM (Rect.unit (s := S512x512) ![0, 0] S512x512.size inb_S512x512_S512x512_0_0).toLoadRect (View.loadsAt_vmem h_S512x512))
  pure ![k0_pay8 x w, k0_pay9 x w, k0_pay11 x w, k0_pay12 x w]

theorem vb_inb (j : Fin 4) : ∀ a, (![bOf j, 0, 64 * kOf j] : Fin 3 → Nat) a + S1x1024x64.size a ≤ S2x1024x128.size a := by
  revert j; decide

/-- The gathered V of the pair `j`, and its weights. -/
abbrev vbR (j : Fin 4) : Rect S2x1024x128 := Rect.unit (s := S2x1024x128) ![bOf j, 0, 64 * kOf j] S1x1024x64.size (vb_inb j)

theorem pb_inb (j : Fin 4) : ∀ a, (![j.val, 0, 0] : Fin 3 → Nat) a + S1x512x1024.size a ≤ S4x512x1024.size a := by
  revert j; decide
abbrev pbR (j : Fin 4) : Rect S4x512x1024 := Rect.unit (s := S4x512x1024) ![j.val, 0, 0] S1x512x1024.size (pb_inb j)

/-- The pair's V and weights are read. -/
def readPair (j : Fin 4) : P F (Vec F S1x1024x64 .bf16 × Vec F S1x512x1024 .bf16) := do
  let v : Vec F S1x1024x64 .bf16 ← Prog.lift (.load vG (vbR j).toLoadRect (View.loadsAt_vmem h_S1x1024x64))
  let p : Vec F S1x512x1024 .bf16 ← Prog.lift (.load pM (pbR j).toLoadRect (View.loadsAt_vmem h_S1x512x1024))
  pure (v, p)

theorem ob_inb (b : Fin 2) : ∀ a, (![b.val, 0, 0] : Fin 3 → Nat) a + S1x128x512.size a ≤ S2x128x512.size a := by
  revert b; decide
abbrev obR (b : Fin 2) : Rect S2x128x512 := Rect.unit (s := S2x128x512) ![b.val, 0, 0] S1x128x512.size (ob_inb b)
theorem ob_packed (b : Fin 2) : (obR b).PackedRows (EltTy.packing .bf16) := by revert b; decide

/-- One batch's rows of the result are stored. -/
def putOut (b : Fin 2) (w : FVec F S1x128x512 .bf16) : P F PUnit := do
  let _u : Vec F S1x128x512 .bf16 ← Prog.lift (.load oM (obR b).toLoadRect (View.loadsAt_vmem h_S1x128x512))
  Prog.lift (.store oM (obR b) w Finset.univ (View.stores_vmem h_S1x128x512 ((Memref.isWhole_whole cc0_scratch5).storeExact_slice rfl _ (ob_packed b)) (fun _ => rfl)) (.inl rfl))

/-- The weighted values, normalised and projected. -/
def phOut (l : Fin 4 → FVec F S512x1 .f32) : P F PUnit := do
  forL recvV offs
  cpWait 4 woH woM (Memref.isWhole_whole _).wordExact (Memref.isWhole_whole _).wordExact
  let wo : Vec F S512x512 .f32 ← Prog.lift (.load woM (Rect.unit (s := S512x512) ![0, 0] S512x512.size inb_S512x512_S512x512_0_0).toLoadRect (View.loadsAt_vmem h_S512x512))
  let a ← readPair 0
  let b ← readPair 1
  putOut 0 (k0_pay123 (k0_pay122 (l 0) (l 1) wo a.1 a.2 b.1 b.2))
  let a ← readPair 2
  let b ← readPair 3
  putOut 1 (k0_pay124 (l 2) (l 3) (k0_pay121 wo) a.1 a.2 b.1 b.2)

/-- The result is copied out, and the shards' copies are waited for. -/
def phEnd : P F PUnit := do
  cpStart 5 oM oH (Memref.isWhole_whole _).wordExact (Memref.isWhole_whole _).wordExact ⟨Or.inl rfl, trivial⟩
  cpWait 5 oM oH (Memref.isWhole_whole _).wordExact (Memref.isWhole_whole _).wordExact
  forL (fun o => do sentK o; sentV o) offs

/-- The kernel's body on device `d`. -/
def bodyOn (d : Dev nD) : P F PUnit := do
  phStart d
  phStage
  phSend d
  let q ← phQ
  let l ← score 7 q ![k0_pay13, k0_pay14, k0_pay15, k0_pay16]
  let l ← scores q arr l
  phOut l
  phEnd

/-- The printed body, on the buffers and semaphores the call names. -/
abbrev bodyCall : P F PUnit :=
  cc0_body (Memref.whole main_arg0) (Memref.isWhole_whole _) (Memref.whole main_arg1) (Memref.isWhole_whole _) (Memref.whole main_arg4) (Memref.isWhole_whole _) (Memref.whole main_arg2) (Memref.isWhole_whole _) (Memref.whole main_arg3) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13

/-- The printed body is the compact one. -/
theorem body_eq : (bodyCall : P F PUnit) = Prog.op .deviceId fun d => bodyOn d := by
  sl_kernel_rfl

end Cert.KernelIdeal.Coll
-- ==== Proof.IdealProtocol.lean ====
/- The protocol between the devices, and the contents it moves.

   Device `c` first copies its inputs in, tells each of the seven other devices that it has entered, and stages its
   shards of K (rounded to int8) and V (rounded to bfloat16). Once all seven others have told it the same it copies its
   staged shards to them; offset `o + 1` leads to device `peer c o` and lands in slot `o` of the arrays gathered there.
   Per device:

   * the barrier semaphore: each other device signals one unit, `c` waits for seven. The signal that reaches `c` on
     duty `o` comes from `srcOf c o`, and hands `c` that device's slots `6 - o` (where `c`'s own copies will land),
     at any contents.
   * the seven send semaphores of K and of V: `c`'s copy of offset `o + 1` signals the `o`-th with its byte count once
     its source has been read; what comes back is the share of the stage the copy was lent. `c` waits for it at the end.
   * the seven receive semaphores of K and of V: the copy of device `srcOf c o` signals the `o`-th with its byte count
     on landing; what is handed over is slot `o` of the gathered array holding that device's staged shard. `c` waits
     for K's before scoring the slot and for V's before weighting.
   * the six copies within the device: each lands on its own semaphore, and hands over its destination, written, and
     its source.

   A device waits on its barrier while it owes only landings; on landings it waits owing nothing. So the barrier has
   level 1, the receive semaphores level 2, all others level 0. -/
module

public import Idealize.ShloMosaic.Lib.ValueIdxCore
public import proofs.«01_k».proof.Proof.IdealBody

@[expose] public section

set_option maxRecDepth 16000

noncomputable section

namespace Cert.KernelIdeal.Coll

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the launch's own, and one set of rounds with duties named by offsets. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Who lands where -/

set_option backward.proofsInPublic true in
/-- The device whose shard is in slot `s` of device `c`'s gathered arrays: slot 7 is its own. -/
def srcOf (c : Dev nD) (s : Fin 8) : Dev nD := ⟨(c.val + (7 - s.val)) % 8, Nat.mod_lt _ (by decide)⟩

theorem srcOf_peer (c : Dev nD) (o : Fin 7) : srcOf (peer c o) (os o) = c := by revert c o; decide
theorem peer_srcOf (c : Dev nD) (o : Fin 7) : peer (srcOf c (os o)) o = c := by revert c o; decide
theorem srcOf_own (c : Dev nD) : srcOf c 7 = c := by revert c; decide
theorem peer_rev (c : Dev nD) (o : Fin 7) : peer (peer c o) (Fin.rev o) = c := by revert c o; decide

/-- Going `o + 1` places on, as a permutation of the devices. -/
def peerEquiv (o : Fin 7) : Dev nD ≃ Dev nD :=
  ⟨fun c => peer c o, fun c => srcOf c (os o), fun c => srcOf_peer c o, fun c => peer_srcOf c o⟩

/-! ## Contents -/

/-- The arguments on device `c`. -/
def xIn (c : Dev nD) : Vec F S2x128x512 .f32 := m ((c : Thread nD τ).loc main_arg0)
def wqIn (c : Dev nD) : Vec F S512x512 .f32 := m ((c : Thread nD τ).loc main_arg1)
def kIn (c : Dev nD) : Vec F S2x128x2x64 .f32 := m ((c : Thread nD τ).loc main_arg2)
def vIn (c : Dev nD) : Vec F S2x128x2x64 .f32 := m ((c : Thread nD τ).loc main_arg3)
def woIn (c : Dev nD) : Vec F S512x512 .f32 := m ((c : Thread nD τ).loc main_arg4)

/-- The staged shards of device `c`. -/
def stK (c : Dev nD) : Vec F S2x128x128 .i8 := k0_pay1 (kIn m c)
def stV (c : Dev nD) : Vec F S2x128x128 .bf16 := k0_pay3 (k0_pay2 (vIn m c))

set_option backward.proofsInPublic true in
/-- The array device `c` gathers of the shards `st`: slot `s` is the shard of device `srcOf c s`. -/
def gat {α : Type} (st : Dev nD → S2x128x128.Idx → α) (c : Dev nD) : S2x1024x128.Idx → α := fun i =>
  st (srcOf c ⟨(i 1).val / 128, by have := idx3_lt1 i; omega⟩)
    (ix3 (i 0) ⟨(i 1).val % 128, Nat.mod_lt _ (by decide)⟩ (i 2))
where
  idx3_lt1 (i : S2x1024x128.Idx) : (i 1).val < 1024 := (i 1).isLt

def gatK (c : Dev nD) : Vec F S2x1024x128 .i8 := gat (stK m) c
def gatV (c : Dev nD) : Vec F S2x1024x128 .bf16 := gat (stV m) c

/-- The four stacked queries. -/
def qs (c : Dev nD) : Fin 4 → FVec F S512x64 .bf16 :=
  ![k0_pay8 (xIn m c) (wqIn m c), k0_pay9 (xIn m c) (wqIn m c), k0_pay11 (xIn m c) (wqIn m c), k0_pay12 (xIn m c) (wqIn m c)]

/-- The key block of slot `s` and pair `j`. -/
def kblk (c : Dev nD) (s : Fin 8) (j : Fin 4) : Vec F S1x128x64 .i8 :=
  kG.view.readAt (Elt F) (kbR s j).toLoadRect (gatK m c)

/-- The weights of slot `s` and pair `j`. -/
def pblk (c : Dev nD) (s : Fin 8) (j : Fin 4) : FVec F S1x512x128 .bf16 := k0_pay19 (qs m c j) (kblk m c s j)

set_option backward.proofsInPublic true in
/-- All weights. -/
def wts (c : Dev nD) : Vec F S4x512x1024 .bf16 := fun i =>
  pblk m c ⟨(i 2).val / 128, by have : (i 2).val < 1024 := (i 2).isLt; omega⟩ (i 0)
    (ix3 0 (i 1) ⟨(i 2).val % 128, Nat.mod_lt _ (by decide)⟩)

/-- The sums of weights after slot `s` is added to `l`. -/
def lnext (c : Dev nD) (l : Fin 4 → FVec F S512x1 .f32) (s : Fin 8) : Fin 4 → FVec F S512x1 .f32 :=
  ![k0_pay18 (qs m c 0) (l 0) (kblk m c s 0), k0_pay18 (qs m c 1) (l 1) (kblk m c s 1),
    k0_pay18 (qs m c 2) (l 2) (kblk m c s 2), k0_pay18 (qs m c 3) (l 3) (kblk m c s 3)]

/-- The sums over the own slot, and over all slots. -/
def lown (c : Dev nD) : Fin 4 → FVec F S512x1 .f32 := lnext m c ![k0_pay13, k0_pay14, k0_pay15, k0_pay16] 7
def lall (c : Dev nD) : Fin 4 → FVec F S512x1 .f32 := arr.foldl (fun l o => lnext m c l (os o)) (lown m c)

/-- The pair's V and weights. -/
def vblk (c : Dev nD) (j : Fin 4) : Vec F S1x1024x64 .bf16 := vG.view.readAt (Elt F) (vbR j).toLoadRect (gatV m c)
def pbig (c : Dev nD) (j : Fin 4) : Vec F S1x512x1024 .bf16 := pM.view.readAt (Elt F) (pbR j).toLoadRect (wts m c)

/-- The two batches' rows of the result, and the result. -/
def out0 (c : Dev nD) : FVec F S1x128x512 .bf16 :=
  k0_pay123 (k0_pay122 (lall m c 0) (lall m c 1) (woIn m c) (vblk m c 0) (pbig m c 0) (vblk m c 1) (pbig m c 1))
def out1 (c : Dev nD) : FVec F S1x128x512 .bf16 :=
  k0_pay124 (lall m c 2) (lall m c 3) (k0_pay121 (woIn m c)) (vblk m c 2) (pbig m c 2) (vblk m c 3) (pbig m c 3)
def out (c : Dev nD) : Vec F S2x128x512 .bf16 := fun i =>
  if (i 0).val = 0 then out0 m c (ix3 0 (i 1) (i 2)) else out1 m c (ix3 0 (i 1) (i 2))

/-! ## The cells -/

/-- The DMA semaphores by use: six copies within the device, sends, receives; and with the barrier. -/
abbrev OI : Type := Fin 6 ⊕ (Fin 2 × Fin 7 ⊕ Fin 2 × Fin 7)
abbrev CI : Type := Unit ⊕ OI

instance : DecidableEq (Dev nD × CI) := @instDecidableEqProd _ _ inferInstance inferInstance

def oidx : OI → DmaSem sig
  | .inl i => dsem ⟨i.val, by omega⟩
  | .inr (.inl (v, o)) => sendS v o
  | .inr (.inr (v, o)) => recvS v o

set_option backward.proofsInPublic true in
/-- The use of a semaphore, from its index. -/
def useOf (i : Fin 34) : OI :=
  if h : i.val < 6 then .inl ⟨i.val, h⟩
  else if h : i.val < 20 then .inr (.inl (⟨(i.val - 6) / 7, by omega⟩, ⟨(i.val - 6) % 7, Nat.mod_lt _ (by decide)⟩))
  else .inr (.inr (⟨(i.val - 20) / 7, by omega⟩, ⟨(i.val - 20) % 7, Nat.mod_lt _ (by decide)⟩))

theorem useOf_oidx (k : OI) : useOf (oidx k) = k := by revert k; decide

abbrev osem (k : OI) : SemLoc sig := .dma (oidx k)
def csem : CI → SemLoc sig
  | .inl _ => .reg barS
  | .inr k => osem k

abbrev barCell (c : Dev nD) : GSem nD τ sig := ((c : Thread nD τ), .reg barS)
abbrev oCell (c : Dev nD) (k : OI) : GSem nD τ sig := ((c : Thread nD τ), osem k)
abbrev kcell (ck : Dev nD × CI) : GSem nD τ sig := ((ck.1 : Thread nD τ), csem ck.2)
/-- The use of the send and receive semaphores. -/
abbrev snd (v : Fin 2) (o : Fin 7) : OI := .inr (.inl (v, o))
abbrev rcv (v : Fin 2) (o : Fin 7) : OI := .inr (.inr (v, o))

/-- What one shard's copy counts: K's and V's. -/
def nK : ℕ := (kSlot 0).view.dmaCredit
def nV : ℕ := (vSlot 0).view.dmaCredit

theorem nK_slot (s : Fin 8) : (kSlot s).view.dmaCredit = nK := rfl
theorem nV_slot (s : Fin 8) : (vSlot s).view.dmaCredit = nV := rfl
theorem nK_stage : kS.view.dmaCredit = nK := rfl
theorem nV_stage : vS.view.dmaCredit = nV := rfl

/-- The count of each semaphore. -/
def amt : OI → ℕ
  | .inl i => (![kM.view.dmaCredit, vM.view.dmaCredit, xM.view.dmaCredit, wqM.view.dmaCredit, woM.view.dmaCredit,
      oH.view.dmaCredit] : Fin 6 → ℕ) i
  | .inr (.inl (v, _)) => (![nK, nV] : Fin 2 → ℕ) v
  | .inr (.inr (v, _)) => (![nK, nV] : Fin 2 → ℕ) v

theorem nK_pos : 0 < nK := View.dmaCredit_pos _ (by decide)
theorem nV_pos : 0 < nV := View.dmaCredit_pos _ (by decide)
theorem amt_pos (k : OI) : 0 < amt k := by
  match k with
  | .inl i =>
    fin_cases i <;> exact View.dmaCredit_pos _ (by decide)
  | .inr (.inl (v, _)) => fin_cases v; exacts [nK_pos, nV_pos]
  | .inr (.inr (v, _)) => fin_cases v; exacts [nK_pos, nV_pos]

/-! ## The payloads -/

/-- A view's elements on device `c` at contents `f`, and its whole buffer. -/
abbrev pts {sp : Space} {s : Shape} {e : EltTy} (M : Memref sig .tc sp s e) (q : PosShare TreeShare) (c : Dev nD)
    (f : Buf (Elt F) (M.view.loc (c : Thread nD τ))) : sProp 𝕄 :=
  M.view.loc (c : Thread nD τ) ↦[M.view.set]{q} f

/-- What a copy within the device hands over: both ends at the same contents. -/
def cpPay (c : Dev nD) : Fin 6 → sProp 𝕄
  | 0 => iprop(pts kM fullShare c (kIn m c) ∗ pts kH fullShare c (kIn m c))
  | 1 => iprop(pts vM fullShare c (vIn m c) ∗ pts vH fullShare c (vIn m c))
  | 2 => iprop(pts xM fullShare c (xIn m c) ∗ pts xH fullShare c (xIn m c))
  | 3 => iprop(pts wqM fullShare c (wqIn m c) ∗ pts wqH fullShare c (wqIn m c))
  | 4 => iprop(pts woM fullShare c (woIn m c) ∗ pts woH fullShare c (woIn m c))
  | 5 => iprop(pts oH fullShare c (out m c) ∗ pts oM fullShare c (out m c))

/-- The share of a stage lent to the copy of offset `o + 1`; the eighth stays. -/
abbrev lent (o : Fin 8) : PosShare TreeShare := ShareLeaves.leaf 3 fullShare o

def stgPay (c : Dev nD) (v : Fin 2) (o : Fin 8) : sProp 𝕄 :=
  match v with
  | 0 => pts kS (lent o) c (stK m c)
  | 1 => pts vS (lent o) c (stV m c)

/-- Slot `s` of a gathered array on device `c` at the gathered contents; and at any. -/
def slotPay (c : Dev nD) (v : Fin 2) (s : Fin 8) : sProp 𝕄 :=
  match v with
  | 0 => pts (kSlot s) fullShare c (gatK m c)
  | 1 => pts (vSlot s) fullShare c (gatV m c)

def slotAny (c : Dev nD) (v : Fin 2) (s : Fin 8) : sProp 𝕄 :=
  match v with
  | 0 => iprop(∃ f, pts (kSlot s) fullShare c f)
  | 1 => iprop(∃ f, pts (vSlot s) fullShare c f)

def payO (c : Dev nD) : OI → sProp 𝕄
  | .inl i => cpPay m c i
  | .inr (.inl (v, o)) => stgPay m c v (os o)
  | .inr (.inr (v, o)) => slotPay m c v (os o)

/-- What the signal of duty `o` hands device `c`: the slots its copies of offset `7 - o` land in. -/
def barPay (c : Dev nD) (o : Fin 7) : sProp 𝕄 :=
  iprop(slotAny (peer c (Fin.rev o)) 0 (os (Fin.rev o)) ∗ slotAny (peer c (Fin.rev o)) 1 (os (Fin.rev o)))

omit [FloatOps F] in
instance slotAny_storable (c : Dev nD) (v : Fin 2) (s : Fin 8) :
    BI.Storable (upEmb : UEmb _ 𝕄) (slotAny (F := F) c v s) := by
  match v with
  | 0 => unfold slotAny; infer_instance
  | 1 => unfold slotAny; infer_instance
omit [FloatOps F] in
instance barPay_storable (c : Dev nD) (o : Fin 7) : BI.Storable (upEmb : UEmb _ 𝕄) (barPay (F := F) c o) := by
  unfold barPay; infer_instance
instance cpPay_storable (c : Dev nD) (i : Fin 6) : BI.Storable (upEmb : UEmb _ 𝕄) (cpPay m c i) := by
  match i with
  | 0 | 1 | 2 | 3 | 4 | 5 => unfold cpPay; infer_instance
instance stgPay_storable (c : Dev nD) (v : Fin 2) (o : Fin 8) : BI.Storable (upEmb : UEmb _ 𝕄) (stgPay m c v o) := by
  match v with
  | 0 | 1 => unfold stgPay; infer_instance
instance slotPay_storable (c : Dev nD) (v : Fin 2) (o : Fin 8) : BI.Storable (upEmb : UEmb _ 𝕄) (slotPay m c v o) := by
  match v with
  | 0 | 1 => unfold slotPay; infer_instance
instance payO_storable (c : Dev nD) (k : OI) : BI.Storable (upEmb : UEmb _ 𝕄) (payO m c k) := by
  match k with
  | .inl i => exact cpPay_storable m c i
  | .inr (.inl (v, o)) => exact stgPay_storable m c v (os o)
  | .inr (.inr (v, o)) => exact slotPay_storable m c v (os o)

/-! ## The schedule: one round -/

abbrev IsBar (g : GSem nD τ sig) : Prop := g.1.2 = .tc ∧ g.2 = .reg barS

/-- The payload of a DMA cell, from its semaphore. -/
def paySem (c : Dev nD) (sm : SemLoc sig) (o : Fin 7) : sProp 𝕄 :=
  match sm with
  | .reg _ => barPay c o
  | .dma i => payO m c (useOf i)
def amtSem : SemLoc sig → ℕ
  | .reg _ => 1
  | .dma i => amt (useOf i)

/-- Round 0: a barrier cell has seven duties of one unit, a DMA cell one duty of its count. -/
def collRd : Rounds.Schedule (GSem nD τ sig) (Fin 7) 𝕄 where
  duties g r := if r = 0 ∧ g.1.2 = .tc then (if g.2 = .reg barS then Finset.univ else {0}) else ∅
  unitless _ := False
  amount g _ _ := amtSem g.2
  payload g _ o := paySem m g.1.1 g.2 o
  amount_pos g _ _ _ := by
    match g.2 with
    | .reg _ => exact Nat.one_pos
    | .dma i => exact amt_pos _

instance collRd_storable (g : GSem nD τ sig) (r : ℕ) (d : Fin 7) :
    BI.Storable (upEmb : UEmb _ 𝕄) ((collRd m).payload g r d) := by
  show BI.Storable upEmb (paySem m g.1.1 g.2 d)
  unfold paySem
  split <;> infer_instance

section Sched
variable (c : Dev nD)

theorem duties_bar : (collRd m).duties (barCell c) 0 = Finset.univ := by
  dsimp only [collRd]; rw [if_pos ⟨rfl, rfl⟩, if_pos rfl]
theorem duties_o (k : OI) : (collRd m).duties (oCell c k) 0 = {0} := by
  dsimp only [collRd]; rw [if_pos ⟨rfl, rfl⟩, if_neg (fun h => by cases h)]
theorem duties_later (g : GSem nD τ sig) : ∀ r, 1 ≤ r → (collRd m).duties g r = ∅ :=
  fun r hr => by dsimp only [collRd]; rw [if_neg fun h => by omega]
theorem amount_bar (d : Fin 7) : (collRd m).amount (barCell c) 0 d = 1 := rfl
theorem amount_o (k : OI) (d : Fin 7) : (collRd m).amount (oCell c k) 0 d = amt k :=
  congrArg amt (useOf_oidx k)
theorem payload_bar (d : Fin 7) : (collRd m).payload (barCell c) 0 d = barPay c d := rfl
theorem payload_o (k : OI) (d : Fin 7) : (collRd m).payload (oCell c k) 0 d = payO m c k :=
  congrArg (payO m c) (useOf_oidx k)
theorem expect_bar : (collRd m).expect (barCell c) 0 = 7 := by
  unfold Schedule.expect Schedule.amountOf
  rw [duties_bar, Finset.sum_congr rfl fun d _ => amount_bar m c d]; rfl
theorem expect_o (k : OI) : (collRd m).expect (oCell c k) 0 = amt k := by
  unfold Schedule.expect Schedule.amountOf; rw [duties_o, Finset.sum_singleton, amount_o]
theorem rest_o (k : OI) : bigSep ((collRd m).duties (oCell c k) 0 \ ∅) (fun d => (collRd m).payload (oCell c k) 0 d) = payO m c k := by
  rw [Finset.sdiff_empty, duties_o, bigSep_singleton, payload_o]
theorem rest_bar : bigSep ((collRd m).duties (barCell c) 0 \ ∅) (fun d => (collRd m).payload (barCell c) 0 d)
    = bigSep Finset.univ fun o : Fin 7 => iprop(slotAny (F := F) (peer c o) 0 (os o) ∗ slotAny (peer c o) 1 (os o)) := by
  rw [Finset.sdiff_empty, duties_bar, bigSep_univ_equiv Fin.revPerm]
  refine BI.bigSep_congr fun o _ => ?_
  rw [payload_bar, barPay, Fin.revPerm_apply, Fin.rev_rev]

end Sched

/-! ## What is owed; the levels -/

/-- A list of debts, the head the last summand. -/
def owl (f : Fin 7 → CellTallies nD τ sig Unit) : List (Fin 7) → CellTallies nD τ sig Unit
  | [] => 0
  | o :: l => owl f l + f o

theorem owl_pos {f : Fin 7 → CellTallies nD τ sig Unit} {g : GSem nD τ sig} {u : Unit} :
    ∀ {l : List (Fin 7)}, 0 < owl f l g u → ∃ o, 0 < f o g u
  | [], h => absurd h (Nat.lt_irrefl 0)
  | o :: l, h => by
    unfold owl at h
    rw [Pi.add_apply, Finsupp.add_apply] at h
    rcases Nat.eq_zero_or_pos (f o g u) with h0 | h0
    · rw [h0, Nat.add_zero] at h; exact owl_pos h
    · exact ⟨o, h0⟩

/-- The debts of device `c`: its signals, its K landings, its V landings. -/
def owB (c : Dev nD) := owl fun o => tallyAt (barCell (peer c o)) () 1
def owR (c : Dev nD) (v : Fin 2) := owl fun o => tallyAt (oCell (peer c o) (rcv v o)) () (amt (rcv v o))
/-- What it owes once it has signalled; at launch. -/
def O₁ (c : Dev nD) : CellTallies nD τ sig Unit := owR c 1 offs + owR c 0 offs
def O₀ (c : Dev nD) : CellTallies nD τ sig Unit := O₁ c + owB c offs

def L (g : GSem nD τ sig) : Finset Unit := if g.1.2 = .tc then {()} else ∅
/-- The level of a semaphore: barrier 1, receive 2, others 0. -/
def lvSem : SemLoc sig → ℕ
  | .reg _ => 1
  | .dma i => if i.val < 20 then 0 else 2
def lv (g : GSem nD τ sig) (_ : Unit) : ℕ := lvSem g.2

theorem L_of_ne (g : GSem nD τ sig) (h : g.1.2 ≠ .tc) : L g = ∅ := if_neg h
theorem L_tc (c : Dev nD) (sm : SemLoc sig) : L ((c : Thread nD τ), sm) = {()} := if_pos rfl

theorem tallyAt_pos {g g' : GSem nD τ sig} {n : ℕ} {u : Unit} (h : 0 < tallyAt (Ix := Unit) g () n g' u) : g' = g := by
  rw [tallyAt_apply] at h
  by_contra hn
  rw [if_neg fun h' => hn h'.1] at h
  exact Nat.lt_irrefl 0 h

/-- A debt of `O₁` is a landing on some device's receive semaphore. -/
theorem O₁_pos {c : Dev nD} {g : GSem nD τ sig} {u : Unit} (h : 0 < O₁ c g u) : ∃ d v o, g = oCell d (rcv v o) := by
  unfold O₁ owR at h
  rw [Pi.add_apply, Finsupp.add_apply] at h
  rcases Nat.eq_zero_or_pos (owl (fun o => tallyAt (oCell (peer c o) (rcv 0 o)) () (amt (rcv 0 o))) offs g u) with h0 | h0
  · rw [h0, Nat.add_zero] at h
    obtain ⟨o, ho⟩ := owl_pos h
    exact ⟨_, 1, o, tallyAt_pos ho⟩
  · obtain ⟨o, ho⟩ := owl_pos h0
    exact ⟨_, 0, o, tallyAt_pos ho⟩

/-- Owing landings only, a device may wait on whatever lies below level 2. -/
theorem mayWait_O₁ (c : Dev nD) (sm : SemLoc sig) (hs : lvSem sm ≤ 1) :
    (levAts L lv : sProp 𝕄) ⊢ MayWait (c : Thread nD τ) sm () (O₁ c) :=
  MayOwe.of_cut (L := L) (lev := lv) 1 (fun p hp => by rw [Finset.mem_singleton.mp hp, L_tc]; exact Finset.mem_singleton_self _)
    (fun g u hg => by obtain ⟨d, v, o, rfl⟩ := O₁_pos hg; rw [L_tc]; exact Finset.mem_singleton_self _)
    (fun p hp => by rw [Finset.mem_singleton.mp hp]; exact hs)
    (fun g u hg => by
      obtain ⟨d, v, o, rfl⟩ := O₁_pos hg
      show 1 < lvSem (osem (rcv v o))
      clear hg; revert v o; decide)

/-- Owing nothing, on anything. -/
theorem mayWait_zero (c : Dev nD) (sm : SemLoc sig) :
    (levAts L lv : sProp 𝕄) ⊢ MayWait (c : Thread nD τ) sm () 0 := by
  rw [MayWait_zero]; iintro -; iempintro

end Cert.KernelIdeal.Coll
-- ==== Proof.IdealSteps.lean ====
/- The single steps of the body, each from what it needs to what it leaves: signals, copies, waits, sends; and the
   loops made of them. -/
module

public import proofs.«01_k».proof.Proof.IdealProtocol

@[expose] public section

set_option maxRecDepth 16000

noncomputable section

namespace Cert.KernelIdeal.Coll

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- What must be held for program `p` on device `c` to run to `Q`. -/
abbrev WP (c : Dev nD) {α : Type} (p : P F α) (Q : α → sProp 𝕄) : sProp 𝕄 :=
  wp frame (wpE (defs₀ (F := F)) 𝒱₀ (c : Thread nD τ) none) Set.univ p Q

/-! ## Sequencing -/

/-- One program after another, the rest `R` kept for the second. -/
theorem wp_seq {c : Dev nD} {α β : Type} {p : P F α} {k : α → P F β} {A R : sProp 𝕄} {Q' : α → sProp 𝕄} {Q : β → sProp 𝕄}
    (h : A ⊢ WP c p Q') (hk : ∀ a, iprop(Q' a ∗ R) ⊢ WP c (k a) Q) : iprop(A ∗ R) ⊢ WP c (p >>= k) Q := by
  unfold WP
  rw [wp_bind]
  exact ((sep_mono_left h).trans (wp_frame_r _ _ _)).trans (wp_mono _ _ _ hk)

/-- A program, the rest `R` kept for its result. -/
theorem wp_last {c : Dev nD} {α : Type} {p : P F α} {A R : sProp 𝕄} {Q' Q : α → sProp 𝕄}
    (h : A ⊢ WP c p Q') (hk : ∀ a, iprop(Q' a ∗ R) ⊢ Q a) : iprop(A ∗ R) ⊢ WP c p Q :=
  ((sep_mono_left h).trans (wp_frame_r _ _ _)).trans (wp_mono _ _ _ hk)

/-- Returning. -/
theorem wp_pure {c : Dev nD} {α : Type} (a : α) {Q : α → sProp 𝕄} : Q a ⊢ WP c (pure a) Q := le_wp_ret _ _ _ a Q

/-- The resources of a list's entries. -/
def bigL {ι : Type} (R : ι → sProp 𝕄) : List ι → sProp 𝕄
  | [] => BI.emp
  | i :: l => iprop(R i ∗ bigL R l)

/-- Over the offsets. -/
theorem bigL_offs (R : Fin 7 → sProp 𝕄) : bigSep Finset.univ R = bigL R offs := by
  rw [bigSep_univ_eq_bigSepL offs (by decide) (by decide)]
  simp only [offs, bigSepL_cons, bigSepL_nil, bigL]
  rfl

theorem bigL_sep {ι : Type} (R S : ι → sProp 𝕄) : ∀ l, bigL (fun i => iprop(R i ∗ S i)) l ⊣⊢ iprop(bigL R l ∗ bigL S l)
  | [] => by
    unfold bigL
    constructor
    · iintro -; isplitl <;> iempintro
    · iintro -; iempintro
  | i :: l => by
    have ih := bigL_sep R S l
    unfold bigL
    constructor
    · iintro ⟨⟨H1, H2⟩, H⟩
      ihave H' := ih.1 $$ H
      icases H' with ⟨H3, H4⟩
      isplitl [H1 H3]
      · isplitl [H1] <;> iassumption
      · isplitl [H2] <;> iassumption
    · iintro ⟨⟨H1, H3⟩, H2, H4⟩
      isplitl [H1 H2]
      · isplitl [H1] <;> iassumption
      · iapply ih.2
        isplitl [H3] <;> iassumption

/-- A loop over a list: every round turns its entry's `R` into `S`, and the state `T` of the remaining entries on. -/
theorem wp_forL {c : Dev nD} {ι : Type} (f : ι → P F PUnit) (T : List ι → sProp 𝕄) (R S : ι → sProp 𝕄)
    (h : ∀ i l, iprop(R i ∗ T (i :: l)) ⊢ WP c (f i) fun _ => iprop(S i ∗ T l)) :
    ∀ l, iprop(bigL R l ∗ T l) ⊢ WP c (forL f l) fun _ => iprop(bigL S l ∗ T [])
  | [] => by
    unfold forL bigL
    exact wp_pure (F := F) (c := c) PUnit.unit (Q := fun _ => iprop(emp ∗ T []))
  | i :: l => by
    have ih := wp_forL f T R S h l
    unfold forL bigL
    refine (show iprop((R i ∗ bigL R l) ∗ T (i :: l)) ⊢ iprop((R i ∗ T (i :: l)) ∗ bigL R l) from ?_).trans
      (wp_seq (h i l) fun _ => ?_)
    · iintro ⟨⟨H1, H2⟩, H3⟩
      isplitr [H2]
      · isplitl [H1] <;> iassumption
      · iexact H2
    · refine (show iprop((S i ∗ T l) ∗ bigL R l) ⊢ iprop((bigL R l ∗ T l) ∗ S i) from ?_).trans (wp_last ih fun _ => ?_)
      · iintro ⟨⟨H1, H2⟩, H3⟩
        isplitr [H1]
        · isplitl [H3] <;> iassumption
        · iexact H1
      · iintro ⟨⟨H1, H2⟩, H3⟩
        isplitr [H2]
        · isplitl [H3] <;> iassumption
        · iexact H2

/-! ## What every step has at hand -/

/-- The cells' invariants and that round 0 of each has begun. -/
def records (K : Dev nD × CI → ℕ) : sProp 𝕄 :=
  iprop((bigSep Finset.univ fun ck : Dev nD × CI => cellInv ER (collRd m) (K ck) (kcell ck))
    ∗ bigSep Finset.univ fun ck : Dev nD × CI => reached ER (kcell ck) 0)

instance records_persistent (K : Dev nD × CI → ℕ) : BI.Persistent (records m K) := by unfold records; infer_instance

theorem rec_inv (K : Dev nD × CI → ℕ) (ck : Dev nD × CI) : records m K ⊢ cellInv ER (collRd m) (K ck) (kcell ck) := by
  have h : (bigSep Finset.univ fun ck : Dev nD × CI => (cellInv ER (collRd m) (K ck) (kcell ck) : sProp 𝕄))
      ⊢ cellInv ER (collRd m) (K ck) (kcell ck) := bigSep_elim (Finset.mem_univ ck)
  unfold records; iintro ⟨H, -⟩; iapply h; iexact H
theorem rec_reached (K : Dev nD × CI → ℕ) (ck : Dev nD × CI) : records m K ⊢ reached ER (kcell ck) 0 := by
  have h : (bigSep Finset.univ fun ck : Dev nD × CI => (reached ER (kcell ck) 0 : sProp 𝕄)) ⊢ reached ER (kcell ck) 0 :=
    bigSep_elim (Finset.mem_univ ck)
  unfold records; iintro ⟨-, H⟩; iapply h; iexact H

/-- The records, the levels, and what device `c` owes. -/
def ctx (K : Dev nD × CI → ℕ) (c : Dev nD) (O : CellTallies nD τ sig Unit) : sProp 𝕄 :=
  iprop(records m K ∗ levAts L lv ∗ ∃ W, owes (c : Thread nD τ) O W)

/-- The credit on a cell with the position before its round; the position after. -/
def crd (c : Dev nD) (k : OI) : sProp 𝕄 := cred (tallyAt (oCell c k) () (amt k))
def at0 (c : Dev nD) (k : OI) : sProp 𝕄 := atPos ER (oCell c k) 0 ∅ 0
def at1 (c : Dev nD) (k : OI) : sProp 𝕄 := atPos ER (oCell c k) 1 ∅ 0
def tok (c : Dev nD) (k : OI) : sProp 𝕄 := dutyTok ER (oCell c k) 0 0

section
variable (K : Dev nD × CI → ℕ) (c : Dev nD)

/-- A copy within the device, started: both ends go with it. -/
theorem wp_cpStart {sp sp' : Space} {s : Shape} {e : EltTy} (i : Fin 6) (j : Fin 34) (hj : j = oidx (.inl i))
    (src : Memref sig .tc sp s e) (dst : Memref sig .tc sp' s e) (hs : src.view.WordExact) (hd : dst.view.WordExact)
    (ht : (DmaTarget.here dst : DmaTarget nD τ sig .tc sp' s e).Typed sp (.dma (dsem j))) {O : CellTallies nD τ sig Unit}
    (fs : Buf (Elt F) (src.view.loc (c : Thread nD τ))) (fd : Buf (Elt F) (dst.view.loc (c : Thread nD τ)))
    (hN : dst.view.dmaCredit = amt (.inl i))
    (hpay : iprop(pts dst fullShare c (dst.view.write (Elt F) fd (src.view.read (Elt F) fs) Finset.univ) ∗ pts src fullShare c fs) ⊢ cpPay m c i) :
    iprop(ctx m K c O ∗ pts src fullShare c fs ∗ pts dst fullShare c fd ∗ tok c (.inl i))
      ⊢ WP c (cpStart j src dst hs hd ht) fun _ => iprop(ctx m K c O ∗ crd c (.inl i)) := by
  subst hj
  unfold ctx cpStart tok
  iintro ⟨⟨#HR, #HL, HO⟩, Hs, Hd, Ht⟩
  simp only [Prog.lift]
  iapply (Rounds.wp_copy_pointsTo 𝒱₀ ER (collRd m) (c : Thread nD τ) none (κ := K (c, .inr (.inl i))) (r := 0) (d := 0)
      (by rw [duties_o]; exact Finset.mem_singleton_self _) () (amt (.inl i)) (show dst.view.amount (.dma _) = _ from hN) (amount_o m c (.inl i) 0)
      (by rw [payload_o]; exact hpay)) $$ [Hs Hd Ht]
  · isplitr; · iapply (rec_inv m K (c, .inr (.inl i))); iexact HR
    isplitl [Hs]; · iexact Hs
    isplitl [Hd]; · iexact Hd
    isplitl [Ht]; · iexact Ht
    iapply (rec_reached m K (c, .inr (.inl i))); iexact HR
  iintro Hc
  rw [wp_ret]; imodintro
  isplitl [HO]
  · isplitr; · iexact HR
    isplitr; · iexact HL
    iexact HO
  · unfold crd; iexact Hc

/-- A wait on a DMA semaphore for its whole round: what its copy hands over comes with it. -/
theorem wp_waitD {sp sp' : Space} {s s' : Shape} {e e' : EltTy} (k : OI) (j : Fin 34) (hj : j = oidx k)
    (src : Memref sig .tc sp s e) (dst : Memref sig .tc sp' s' e') (hs : src.view.WordExact) (hd : dst.view.WordExact)
    (hN : dst.view.dmaCredit = amt k) {O : CellTallies nD τ sig Unit}
    (hO : (levAts L lv : sProp 𝕄) ⊢ MayWait (c : Thread nD τ) (osem k) () O) :
    iprop(ctx m K c O ∗ crd c k ∗ at0 c k)
      ⊢ WP c (Prog.lift (.waitDma2 (dsem j) src dst hs hd)) fun _ => iprop(ctx m K c O ∗ at1 c k ∗ payO m c k) := by
  subst hj
  unfold ctx crd at0 at1
  iintro ⟨⟨#HR, #HL, ⟨%W, HO⟩⟩, Hc, Ha⟩
  simp only [Prog.lift]
  iapply (Rounds.wp_wait_rest_token 𝒱₀ ER (collRd m) (c : Thread nD τ) none (κ := K (c, .inr k)) (sm := osem k) (k' := amt k)
      (hN ▸ wpE_waitDma2_eq 𝒱₀ (c : Thread nD τ) none Set.univ) (Set.mem_univ _) () (O := O) (W := W) (R := 0) (m := 0) (T := ∅)
      (by rw [Nat.zero_add, expect_o])) $$ [Hc HO Ha]
  · isplitr; · iapply (rec_inv m K (c, .inr k)); iexact HR
    isplitl [Hc]; · iexact Hc
    isplitl [HO]; · iexact HO
    isplitr; · iapply hO; iexact HL
    iexact Ha
  iintro ⟨HO, Ha, -, Hp⟩
  rw [wp_ret]; imodintro
  isplitl [HO]
  · isplitr; · iexact HR
    isplitr; · iexact HL
    iexists _; iexact HO
  isplitl [Ha]; · iexact Ha
  iapply (Entails.of_eq (rest_o m c k)); iexact Hp

/-- The signal to the device `o + 1` places on, with the two slots that device will copy into. -/
theorem wp_sigStep (O : CellTallies nD τ sig Unit) (o : Fin 7) (l : List (Fin 7)) :
    iprop((dutyTok ER (barCell (peer c o)) 0 o ∗ slotAny c 0 (os (Fin.rev o)) ∗ slotAny c 1 (os (Fin.rev o))) ∗ ctx m K c (O + owB c (o :: l)))
      ⊢ WP c (sigStep c o) fun _ => iprop(emp ∗ ctx m K c (O + owB c l)) := by
  unfold ctx sigStep
  rw [sigDev_eq]
  iintro ⟨⟨Ht, H0, H1⟩, #HR, #HL, ⟨%W, HO⟩⟩
  simp only [semSignalWord, Prog.lift]
  iapply (Rounds.wp_signal 𝒱₀ ER (collRd m) (c : Thread nD τ) none (dst := (peer c o : Thread nD τ)) (κ := K (peer c o, .inl ()))
      (d := o) (by rw [duties_bar]; exact Finset.mem_univ _) ((amount_bar m (peer c o) o).trans (by decide)) () (O + owB c l)
      (add_assoc O (owB c l) _).symm) $$ [HO Ht H0 H1]
  · isplitr; · iapply (rec_inv m K (peer c o, .inl ())); iexact HR
    isplitl [HO]; · iexact HO
    isplitl [Ht]; · iexact Ht
    isplitl [H0 H1]
    · rw [payload_bar]; unfold barPay; rw [peer_rev]
      isplitl [H0] <;> iassumption
    · iapply (rec_reached m K (peer c o, .inl ())); iexact HR
  iintro HO
  rw [wp_ret]; imodintro
  isplitr; · iempintro
  isplitr; · iexact HR
  isplitr; · iexact HL
  iexists W; iexact HO

/-- The wait for all seven other devices: the slots `c`'s copies land in come with it. -/
theorem wp_barWait :
    iprop(ctx m K c (O₁ c) ∗ cred (tallyAt (barCell c) () 7) ∗ atPos ER (barCell c) 0 ∅ 0)
      ⊢ WP c (semWaitWord barS 7#32) fun _ => iprop(ctx m K c (O₁ c) ∗ atPos ER (barCell c) 1 ∅ 0
          ∗ bigL (fun o => slotAny (F := F) (peer c o) 0 (os o)) offs ∗ bigL (fun o => slotAny (F := F) (peer c o) 1 (os o)) offs) := by
  unfold ctx
  iintro ⟨⟨#HR, #HL, ⟨%W, HO⟩⟩, Hc, Ha⟩
  simp only [semWaitWord, Prog.lift]
  iapply (Rounds.wp_wait_rest_token 𝒱₀ ER (collRd m) (c : Thread nD τ) none (κ := K (c, .inl ()))
      (wpE_semWait_eq 𝒱₀ (c : Thread nD τ) none Set.univ) (Set.mem_univ _) () (O := O₁ c) (W := W) (R := 0) (m := 0) (T := ∅)
      (by rw [expect_bar]; decide)) $$ [Hc HO Ha]
  · isplitr; · iapply (rec_inv m K (c, .inl ())); iexact HR
    isplitl [Hc]; · iexact Hc
    isplitl [HO]; · iexact HO
    isplitr; · iapply (mayWait_O₁ (F := F) c (.reg barS) (le_refl _)); iexact HL
    iexact Ha
  iintro ⟨HO, Ha, -, Hp⟩
  rw [wp_ret]; imodintro
  isplitl [HO]
  · isplitr; · iexact HR
    isplitr; · iexact HL
    iexists _; iexact HO
  isplitl [Ha]; · iexact Ha
  iapply (((Entails.of_eq ((rest_bar m c).trans (bigL_offs _)))).trans (bigL_sep _ _ offs).1); iexact Hp

/-! ## What lands in a slot -/

omit [FloatOps F] in
/-- A gathered array, read at a slot's element, is the shard's element. -/
theorem gat_emb {α : Type} (st : Dev nD → S2x128x128.Idx → α) (c : Dev nD) (s : Fin 8) (y : S2x128x128.Idx) :
    gat st c ((slotR s).emb y) = st (srcOf c s) y := by
  have hy : (y 1).val < 128 := (y 1).isLt
  have h0 : (((slotR s).emb y) 0).val = (y 0).val := by
    show 0 + 1 * (y 0).val = _; omega
  have h1 : (((slotR s).emb y) 1).val = 128 * s.val + (y 1).val := by
    show 128 * s.val + 1 * (y 1).val = _; omega
  have h2 : (((slotR s).emb y) 2).val = (y 2).val := by
    show 0 + 1 * (y 2).val = _; omega
  unfold gat
  congr 1
  · congr 1
    apply Fin.ext
    show (((slotR s).emb y) 1).val / 128 = s.val
    omega
  · funext a
    match a with
    | ⟨0, _⟩ => exact Fin.ext h0
    | ⟨1, _⟩ => exact Fin.ext (show (((slotR s).emb y) 1).val % 128 = (y 1).val by omega)
    | ⟨2, _⟩ => exact Fin.ext h2

/-- A shard written into slot `s`, for K and for V. -/
theorem landK (c : Dev nD) (s : Fin 8) (fd : Buf (Elt F) ((kSlot s).view.loc (c : Thread nD τ))) (w : Vec F S2x128x128 .i8)
    (hw : w = stK m (srcOf c s)) :
    (pts (kSlot s) fullShare c ((kSlot s).view.write (Elt F) fd w Finset.univ) : sProp 𝕄) = slotPay m c 0 s := by
  subst hw
  refine pointsTo_congr fun i hi => ?_
  obtain ⟨y, -, rfl⟩ := Finset.mem_map.mp hi
  rw [View.write_emb_of_mem _ _ (Finset.mem_univ _)]
  exact (gat_emb (stK m) c s y).symm
theorem landV (c : Dev nD) (s : Fin 8) (fd : Buf (Elt F) ((vSlot s).view.loc (c : Thread nD τ))) (w : Vec F S2x128x128 .bf16)
    (hw : w = stV m (srcOf c s)) :
    (pts (vSlot s) fullShare c ((vSlot s).view.write (Elt F) fd w Finset.univ) : sProp 𝕄) = slotPay m c 1 s := by
  subst hw
  refine pointsTo_congr fun i hi => ?_
  obtain ⟨y, -, rfl⟩ := Finset.mem_map.mp hi
  rw [View.write_emb_of_mem _ _ (Finset.mem_univ _)]
  exact (gat_emb (stV m) c s y).symm

/-! ## The sends -/

/-- What a send of offset `o + 1` needs. -/
def sendNeed (v : Fin 2) (o : Fin 7) : sProp 𝕄 :=
  iprop(tok c (snd v o) ∗ tok (peer c o) (rcv v o) ∗ stgPay m c v (os o) ∗ slotAny (peer c o) v (os o))

/-- A send addressed to `n`, which is the device `o + 1` places on: the lent share goes with it, the debt is paid. -/
theorem wp_sendTo (v : Fin 2) (o : Fin 7) (n : Dev nD) (hn : n = peer c o) {s : Shape} {e : EltTy}
    (src dst : Memref sig .tc .vmem s e) {hsc : (dst : Memref sig (Dev.tc n : Thread nD τ).2.kind .vmem s e).view.ref.isScScratch = false}
    (jS jR : Fin 34) (hS : jS = oidx (snd v o)) (hR : jR = oidx (rcv v o))
    {hs : src.view.WordExact} {hd : dst.view.WordExact}
    {ht : DmaTarget.Typed .vmem (.dma (dsem jR)) (.remote (Dev.tc n : Thread nD τ) dst (.dma (dsem jS)) hsc)}
    (fs : Buf (Elt F) (src.view.loc (c : Thread nD τ))) (hN : dst.view.dmaCredit = amt (rcv v o))
    (hsrc : stgPay m c v (os o) = pts src (lent (os o)) c fs)
    (hdst : slotAny (F := F) (peer c o) v (os o) = iprop(∃ f, pts dst fullShare (peer c o) f))
    (hland : ∀ f, pts dst fullShare (peer c o) (dst.view.write (Elt F) f (src.view.read (Elt F) fs) Finset.univ)
      ⊢ slotPay m (peer c o) v (os o))
    (O : CellTallies nD τ sig Unit) (l : List (Fin 7)) :
    iprop(sendNeed m c v o ∗ ctx m K c (O + owR c v (o :: l)))
      ⊢ WP c (Prog.lift (.enqueueDma src (.remote (Dev.tc n : Thread nD τ) dst (.dma (dsem jS)) hsc) (.dma (dsem jR)) hs hd ht))
          fun _ => iprop(crd c (snd v o) ∗ ctx m K c (O + owR c v l)) := by
  subst hn hS hR
  unfold ctx sendNeed tok crd
  rw [hsrc, hdst]
  iintro ⟨⟨Ht, Ht', Hs, ⟨%f, Hd⟩⟩, #HR, #HL, ⟨%W, HO⟩⟩
  simp only [Prog.lift]
  iapply (Rounds.wp_send_pointsTo 𝒱₀ ER (collRd m) (c : Thread nD τ) none (c' := (peer c o : Thread nD τ))
      (κ₁ := K (c, .inr (snd v o))) (κ₂ := K (peer c o, .inr (rcv v o)))
      (r₁ := 0) (r₂ := 0) (d₁ := 0) (d₂ := 0) (fd := f)
      (by rw [duties_o]; exact Finset.mem_singleton_self _) (by rw [duties_o]; exact Finset.mem_singleton_self _)
      () () (amt (rcv v o)) (show dst.view.amount (.dma _) = _ from hN) (amount_o m c (snd v o) 0) (amount_o m (peer c o) (rcv v o) 0) (O + owR c v l)
      (add_assoc O (owR c v l) _).symm (W := W)
      (by rw [payload_o]; exact Entails.of_eq hsrc.symm)
      (by rw [payload_o]; exact hland f)) $$ [Ht Ht' Hs Hd HO]
  · isplitr; · iapply (rec_inv m K (c, .inr (snd v o))); iexact HR
    isplitr; · iapply (rec_inv m K (peer c o, .inr (rcv v o))); iexact HR
    isplitl [Hs]; · iexact Hs
    isplitl [Hd]; · iexact Hd
    isplitl [HO]; · iexact HO
    isplitl [Ht]; · iexact Ht
    isplitr; · iapply (rec_reached m K (c, .inr (snd v o))); iexact HR
    isplitl [Ht']; · iexact Ht'
    iapply (rec_reached m K (peer c o, .inr (rcv v o))); iexact HR
  iintro ⟨Hc, HO⟩
  rw [wp_ret]; imodintro
  isplitl [Hc]; · iexact Hc
  isplitr; · iexact HR
  isplitr; · iexact HL
  iexists W; iexact HO

theorem wp_sendK (O : CellTallies nD τ sig Unit) (o : Fin 7) (l : List (Fin 7)) :
    iprop(sendNeed m c 0 o ∗ ctx m K c (O + owR c 0 (o :: l)))
      ⊢ WP c (sendK c o) fun _ => iprop(crd c (snd 0 o) ∗ ctx m K c (O + owR c 0 l)) :=
  wp_sendTo m K c 0 o _ (kDev_eq c o) kS (kSlot (os o)) _ _ rfl rfl (stK m c) (nK_slot (os o)) rfl rfl
    (fun f => Entails.of_eq (landK m (peer c o) (os o) f _ (by rw [srcOf_peer]; exact View.read_whole _ _))) O l
theorem wp_sendV (O : CellTallies nD τ sig Unit) (o : Fin 7) (l : List (Fin 7)) :
    iprop(sendNeed m c 1 o ∗ ctx m K c (O + owR c 1 (o :: l)))
      ⊢ WP c (sendV c o) fun _ => iprop(crd c (snd 1 o) ∗ ctx m K c (O + owR c 1 l)) :=
  wp_sendTo m K c 1 o _ (vDev_eq c o) vS (vSlot (os o)) _ _ rfl rfl (stV m c) (nV_slot (os o)) rfl rfl
    (fun f => Entails.of_eq (landV m (peer c o) (os o) f _ (by rw [srcOf_peer]; exact View.read_whole _ _))) O l

/-! ## The arrivals and the returns -/

/-- A wait owing nothing, as a loop's round: the credit and position in, the position and payload out. -/
theorem wp_arrive {p : P F PUnit} (k : OI)
    (h : iprop(ctx m K c 0 ∗ crd c k ∗ at0 c k) ⊢ WP c p fun _ => iprop(ctx m K c 0 ∗ at1 c k ∗ payO m c k)) :
    iprop((crd c k ∗ at0 c k) ∗ ctx m K c 0) ⊢ WP c p fun _ => iprop((at1 c k ∗ payO m c k) ∗ ctx m K c 0) := by
  refine (sep_comm (PROP := sProp 𝕄)).1.trans (h.trans (wp_mono _ _ _ fun _ => (sep_comm (PROP := sProp 𝕄)).1))

theorem wp_recvK (o : Fin 7) :
    iprop((crd c (rcv 0 o) ∗ at0 c (rcv 0 o)) ∗ ctx m K c 0)
      ⊢ WP c (recvK o) fun _ => iprop((at1 c (rcv 0 o) ∗ payO m c (rcv 0 o)) ∗ ctx m K c 0) :=
  wp_arrive m K c (rcv 0 o) (by
    unfold recvK
    exact wp_waitD m K c (rcv 0 o) _ rfl _ _ _ _ (nK_slot (os o)) (mayWait_zero c _))
theorem wp_recvV (o : Fin 7) :
    iprop((crd c (rcv 1 o) ∗ at0 c (rcv 1 o)) ∗ ctx m K c 0)
      ⊢ WP c (recvV o) fun _ => iprop((at1 c (rcv 1 o) ∗ payO m c (rcv 1 o)) ∗ ctx m K c 0) :=
  wp_arrive m K c (rcv 1 o) (by
    unfold recvV
    exact wp_waitD m K c (rcv 1 o) _ rfl _ _ _ _ (nV_slot (os o)) (mayWait_zero c _))
theorem wp_sentK (o : Fin 7) :
    iprop((crd c (snd 0 o) ∗ at0 c (snd 0 o)) ∗ ctx m K c 0)
      ⊢ WP c (sentK o) fun _ => iprop((at1 c (snd 0 o) ∗ payO m c (snd 0 o)) ∗ ctx m K c 0) :=
  wp_arrive m K c (snd 0 o) (by
    unfold sentK
    exact wp_waitD m K c (snd 0 o) _ rfl _ _ _ _ (nK_stage) (mayWait_zero c _))
theorem wp_sentV (o : Fin 7) :
    iprop((crd c (snd 1 o) ∗ at0 c (snd 1 o)) ∗ ctx m K c 0)
      ⊢ WP c (sentV o) fun _ => iprop((at1 c (snd 1 o) ∗ payO m c (snd 1 o)) ∗ ctx m K c 0) :=
  wp_arrive m K c (snd 1 o) (by
    unfold sentV
    exact wp_waitD m K c (snd 1 o) _ rfl _ _ _ _ (nV_stage) (mayWait_zero c _))

end

end Cert.KernelIdeal.Coll
-- ==== Proof.IdealPhases.lean ====
/- The phases of the body, each from the buffers, tokens and credits it needs to those it leaves. -/
module

public import Idealize.ShloMosaic.Lib.Pipeline.Value
public import proofs.«01_k».proof.Proof.IdealSteps

@[expose] public section

set_option maxRecDepth 16000

noncomputable section

namespace Cert.KernelIdeal.Coll

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Steps with their continuation -/

section
variable {c : Dev nD} {α β : Type}

theorem wp_step {p : P F α} {k : α → P F β} {A : sProp 𝕄} {Q' : α → sProp 𝕄} {Q : β → sProp 𝕄} (h : A ⊢ WP c p Q') :
    A ⊢ iprop((∀ a, Q' a -∗ WP c (k a) Q) -∗ WP c (p >>= k) Q) := by
  unfold WP
  rw [wp_bind]
  exact h.trans (wp_wand _ _ _)

theorem wp_unit {p : P F PUnit} {k : PUnit → P F β} {A A' : sProp 𝕄} {Q : β → sProp 𝕄} (h : A ⊢ WP c p fun _ => A') :
    A ⊢ iprop((A' -∗ WP c (k ⟨⟩) Q) -∗ WP c (p >>= k) Q) := by
  iintro HA Hk
  iapply (wp_step h) $$ HA
  iintro %a HA
  iapply Hk; iexact HA

theorem wp_end {p : P F α} {A : sProp 𝕄} {Q' Q : α → sProp 𝕄} (h : A ⊢ WP c p Q') :
    A ⊢ iprop((∀ a, Q' a -∗ Q a) -∗ WP c p Q) := h.trans (wp_wand _ _ _)

theorem wp_uend {p : P F PUnit} {A A' : sProp 𝕄} {Q : PUnit → sProp 𝕄} (h : A ⊢ WP c p fun _ => A') :
    A ⊢ iprop((A' -∗ Q ⟨⟩) -∗ WP c p Q) := by
  iintro HA Hk
  iapply (wp_end h) $$ HA
  iintro %a HA
  iapply Hk; iexact HA

/-- A load, of elements held. -/
theorem wp_ld {s : Shape} {e : EltTy} (M : Memref sig .tc .vmem s e) (r : LoadRect s) (hl : M.view.LoadsAt r)
    {S : Finset (Idx (M.view.loc (c : Thread nD τ)))} (hS : M.view.setOn r.set ⊆ S) {q : PosShare TreeShare}
    {f : Buf (Elt F) (M.view.loc (c : Thread nD τ))} :
    (M.view.loc (c : Thread nD τ) ↦[S]{q} f : sProp 𝕄)
      ⊢ WP c (Prog.lift (.load M r hl)) fun v => iprop(⌜v = M.view.readAt (Elt F) r f⌝ ∗ M.view.loc (c : Thread nD τ) ↦[S]{q} f) := by
  simp only [Prog.lift]
  iintro H
  iapply (wp_load 𝒱₀ (c : Thread nD τ) none Set.univ (m := M) hS) $$ H
  iintro H
  rw [wp_ret]; imodintro
  isplitr; · ipureintro; rfl
  iexact H

/-- A store of a whole vector, into elements held. -/
theorem wp_st {s : Shape} {e : EltTy} (M : Memref sig .tc .vmem s e) (r : Rect s) (w : r.shape.Idx → Elt F e)
    (hx : (M.access r).Stores Finset.univ) (hm : (Finset.univ : Finset r.shape.Idx) = Finset.univ ∨ ∀ a, r.stride a = 1)
    {S : Finset (Idx (M.view.loc (c : Thread nD τ)))} (hS : (M.access r).setOn Finset.univ ⊆ S)
    {f : Buf (Elt F) (M.view.loc (c : Thread nD τ))} :
    (M.view.loc (c : Thread nD τ) ↦[S]{fullShare} f : sProp 𝕄)
      ⊢ WP c (Prog.lift (.store M r w Finset.univ hx hm))
          fun _ => (M.view.loc (c : Thread nD τ) ↦[S]{fullShare} (M.access r).write (Elt F) f w Finset.univ) := by
  simp only [Prog.lift]
  iintro H
  iapply (wp_store 𝒱₀ (c : Thread nD τ) none Set.univ (m := M) (r := r) (Mk := Finset.univ) hS) $$ H
  iintro H
  rw [wp_ret]; imodintro
  iexact H

end

/-! ## The slots of a gathered array -/

theorem slot_disj : ∀ s ∈ (Finset.univ : Finset (Fin 8)), ∀ s' ∈ (Finset.univ : Finset (Fin 8)), s ≠ s' →
    Disjoint (slotR s).set (slotR s').set := by
  intro s _ s' _ h
  rw [Finset.disjoint_left]
  intro i hi hi'
  rw [Rect.mem_set_unit] at hi hi'
  have h1 := hi 1
  have h2 := hi' 1
  have e1 : 128 * s.val ≤ (i 1).val ∧ (i 1).val < 128 * s.val + 128 := h1
  have e2 : 128 * s'.val ≤ (i 1).val ∧ (i 1).val < 128 * s'.val + 128 := h2
  exact h (Fin.ext (by omega))

theorem slot_mem (s : Fin 8) (i : S2x1024x128.Idx) (h1 : 128 * s.val ≤ (i 1).val) (h2 : (i 1).val < 128 * s.val + 128) :
    i ∈ (slotR s).set := by
  rw [Rect.mem_set_unit]
  intro a
  match a with
  | ⟨0, _⟩ => exact ⟨Nat.zero_le _, by have : (i 0).val < 2 := (i 0).isLt; exact (by omega : (i 0).val < 0 + 2)⟩
  | ⟨1, _⟩ => exact ⟨h1, h2⟩
  | ⟨2, _⟩ => exact ⟨Nat.zero_le _, by have : (i 2).val < 128 := (i 2).isLt; exact (by omega : (i 2).val < 0 + 128)⟩

theorem slot_cover : (Finset.univ : Finset (Fin 8)).biUnion (fun s => (slotR s).set) = Finset.univ := by
  ext i
  simp only [Finset.mem_biUnion, Finset.mem_univ, true_and, iff_true]
  have : (i 1).val < 1024 := (i 1).isLt
  exact ⟨⟨(i 1).val / 128, by omega⟩, slot_mem _ i (by show 128 * ((i 1).val / 128) ≤ _; omega)
    (by show _ < 128 * ((i 1).val / 128) + 128; omega)⟩

theorem kSlot_set (s : Fin 8) : (kSlot s).view.set = (slotR s).set := View.set_slice_whole _ _
theorem vSlot_set (s : Fin 8) : (vSlot s).view.set = (slotR s).set := View.set_slice_whole _ _

/-- A gathered array is its own slot and its seven landing slots. -/
theorem fin8_offs (R : Fin 8 → sProp 𝕄) : bigSep Finset.univ R = iprop(R 7 ∗ bigL (fun o => R (os o)) offs) := by
  rw [bigSep_univ_eq_bigSepL [7, 0, 1, 2, 3, 4, 5, 6] (by decide) (by decide)]
  simp only [offs, bigSepL_cons, bigSepL_nil, bigL]
  rfl

theorem kSlots (c : Dev nD) (f : Buf (Elt F) (kG.view.loc (c : Thread nD τ))) :
    (pts kG fullShare c f : sProp 𝕄)
      = iprop(pts (kSlot 7) fullShare c f ∗ bigL (fun o => pts (kSlot (os o)) fullShare c f) offs) := by
  rw [← fin8_offs (fun s => pts (kSlot s) fullShare c f)]
  have h := pointsTo_biUnion (Ix := Unit) (Name := ℕ) (U := UU) (Lvl := ℕ) (ℓ := kG.view.loc (c : Thread nD τ)) (q := fullShare) (f := f)
    Finset.univ (fun s : Fin 8 => (slotR s).set) slot_disj
  rw [show (Finset.univ : Finset (Fin 8)).biUnion (fun s => (slotR s).set) = kG.view.set from slot_cover.trans (View.set_whole cc0_scratch8).symm] at h
  refine h.trans (BI.bigSep_congr fun s _ => ?_)
  show _ = ((kSlot s).view.loc (c : Thread nD τ) ↦[(kSlot s).view.set]{fullShare} f : sProp 𝕄)
  rw [kSlot_set]
theorem vSlots (c : Dev nD) (f : Buf (Elt F) (vG.view.loc (c : Thread nD τ))) :
    (pts vG fullShare c f : sProp 𝕄)
      = iprop(pts (vSlot 7) fullShare c f ∗ bigL (fun o => pts (vSlot (os o)) fullShare c f) offs) := by
  rw [← fin8_offs (fun s => pts (vSlot s) fullShare c f)]
  have h := pointsTo_biUnion (Ix := Unit) (Name := ℕ) (U := UU) (Lvl := ℕ) (ℓ := vG.view.loc (c : Thread nD τ)) (q := fullShare) (f := f)
    Finset.univ (fun s : Fin 8 => (slotR s).set) slot_disj
  rw [show (Finset.univ : Finset (Fin 8)).biUnion (fun s => (slotR s).set) = vG.view.set from slot_cover.trans (View.set_whole cc0_scratch9).symm] at h
  refine h.trans (BI.bigSep_congr fun s _ => ?_)
  show _ = ((vSlot s).view.loc (c : Thread nD τ) ↦[(vSlot s).view.set]{fullShare} f : sProp 𝕄)
  rw [vSlot_set]

/-- A stage is the share that stays and the seven lent. -/
theorem kShares (c : Dev nD) (f : Buf (Elt F) (kS.view.loc (c : Thread nD τ))) :
    (pts kS fullShare c f : sProp 𝕄) = iprop(pts kS (lent 7) c f ∗ bigL (fun o => pts kS (lent (os o)) c f) offs) := by
  rw [← fin8_offs (fun s => pts kS (lent s) c f)]
  exact ShareLeaves.pointsTo_leaves _ f 3 fullShare
theorem vShares (c : Dev nD) (f : Buf (Elt F) (vS.view.loc (c : Thread nD τ))) :
    (pts vS fullShare c f : sProp 𝕄) = iprop(pts vS (lent 7) c f ∗ bigL (fun o => pts vS (lent (os o)) c f) offs) := by
  rw [← fin8_offs (fun s => pts vS (lent s) c f)]
  exact ShareLeaves.pointsTo_leaves _ f 3 fullShare

section
variable (K : Dev nD × CI → ℕ) (c : Dev nD)

/-! ## Start -/

/-- The arguments' buffers, and the buffers they are staged in at any contents. -/
def argsIn : sProp 𝕄 :=
  iprop(pts kH fullShare c (kIn m c) ∗ pts vH fullShare c (vIn m c) ∗ pts xH fullShare c (xIn m c)
    ∗ pts wqH fullShare c (wqIn m c) ∗ pts woH fullShare c (woIn m c))
def argStages : sProp 𝕄 :=
  iprop((∃ f, pts kM fullShare c f) ∗ (∃ f, pts vM fullShare c f) ∗ (∃ f, pts xM fullShare c f)
    ∗ (∃ f, pts wqM fullShare c f) ∗ (∃ f, pts woM fullShare c f))

/-- What the signal of offset `o + 1` needs. -/
def sigNeed (o : Fin 7) : sProp 𝕄 :=
  iprop(dutyTok ER (barCell (peer c o)) 0 o ∗ slotAny c 0 (os (Fin.rev o)) ∗ slotAny c 1 (os (Fin.rev o)))

theorem wp_phStart :
    iprop(ctx m K c (O₀ c) ∗ argsIn m c ∗ argStages c
        ∗ (tok c (.inl 0) ∗ tok c (.inl 1) ∗ tok c (.inl 2) ∗ tok c (.inl 3) ∗ tok c (.inl 4))
        ∗ bigL (sigNeed c) offs)
      ⊢ WP c (phStart c) fun _ => iprop(ctx m K c (O₁ c)
        ∗ crd c (.inl 0) ∗ crd c (.inl 1) ∗ crd c (.inl 2) ∗ crd c (.inl 3) ∗ crd c (.inl 4)) := by
  unfold phStart argsIn argStages
  iintro ⟨HC, ⟨Hk, Hv, Hx, Hwq, Hwo⟩, ⟨⟨%fk, Hk'⟩, ⟨%fv, Hv'⟩, ⟨%fx, Hx'⟩, ⟨%fwq, Hwq'⟩, ⟨%fwo, Hwo'⟩⟩, ⟨T0, T1, T2, T3, T4⟩, Hsig⟩
  iapply (wp_unit (wp_cpStart m K c 0 0 rfl kH kM (Memref.isWhole_whole _).wordExact (Memref.isWhole_whole _).wordExact ⟨Or.inl rfl, trivial⟩ (O := O₀ c) (kIn m c) fk rfl
    (by rw [View.read_whole]; exact Entails.of_eq (congrArg (fun w => iprop(pts kM fullShare c w ∗ pts kH fullShare c (kIn m c))) (View.write_whole_univ _ _ _))))) $$ [HC Hk Hk' T0]
  · isplitl [HC]; · iexact HC
    isplitl [Hk]; · iexact Hk
    isplitl [Hk'] <;> iassumption
  iintro ⟨HC, C0⟩
  iapply (wp_unit (wp_cpStart m K c 1 1 rfl vH vM (Memref.isWhole_whole _).wordExact (Memref.isWhole_whole _).wordExact ⟨Or.inl rfl, trivial⟩ (O := O₀ c) (vIn m c) fv rfl
    (by rw [View.read_whole]; exact Entails.of_eq (congrArg (fun w => iprop(pts vM fullShare c w ∗ pts vH fullShare c (vIn m c))) (View.write_whole_univ _ _ _))))) $$ [HC Hv Hv' T1]
  · isplitl [HC]; · iexact HC
    isplitl [Hv]; · iexact Hv
    isplitl [Hv'] <;> iassumption
  iintro ⟨HC, C1⟩
  iapply (wp_unit (wp_cpStart m K c 2 2 rfl xH xM (Memref.isWhole_whole _).wordExact (Memref.isWhole_whole _).wordExact ⟨Or.inl rfl, trivial⟩ (O := O₀ c) (xIn m c) fx rfl
    (by rw [View.read_whole]; exact Entails.of_eq (congrArg (fun w => iprop(pts xM fullShare c w ∗ pts xH fullShare c (xIn m c))) (View.write_whole_univ _ _ _))))) $$ [HC Hx Hx' T2]
  · isplitl [HC]; · iexact HC
    isplitl [Hx]; · iexact Hx
    isplitl [Hx'] <;> iassumption
  iintro ⟨HC, C2⟩
  iapply (wp_unit (wp_cpStart m K c 3 3 rfl wqH wqM (Memref.isWhole_whole _).wordExact (Memref.isWhole_whole _).wordExact ⟨Or.inl rfl, trivial⟩ (O := O₀ c) (wqIn m c) fwq rfl
    (by rw [View.read_whole]; exact Entails.of_eq (congrArg (fun w => iprop(pts wqM fullShare c w ∗ pts wqH fullShare c (wqIn m c))) (View.write_whole_univ _ _ _))))) $$ [HC Hwq Hwq' T3]
  · isplitl [HC]; · iexact HC
    isplitl [Hwq]; · iexact Hwq
    isplitl [Hwq'] <;> iassumption
  iintro ⟨HC, C3⟩
  iapply (wp_unit (wp_cpStart m K c 4 4 rfl woH woM (Memref.isWhole_whole _).wordExact (Memref.isWhole_whole _).wordExact ⟨Or.inl rfl, trivial⟩ (O := O₀ c) (woIn m c) fwo rfl
    (by rw [View.read_whole]; exact Entails.of_eq (congrArg (fun w => iprop(pts woM fullShare c w ∗ pts woH fullShare c (woIn m c))) (View.write_whole_univ _ _ _))))) $$ [HC Hwo Hwo' T4]
  · isplitl [HC]; · iexact HC
    isplitl [Hwo]; · iexact Hwo
    isplitl [Hwo'] <;> iassumption
  iintro ⟨HC, C4⟩
  iapply (wp_uend (wp_forL (c := c) (sigStep c) (fun l => ctx m K c (O₁ c + owB c l)) (sigNeed c) (fun _ => iprop(emp))
    (fun o l => wp_sigStep m K c (O₁ c) o l) offs)) $$ [HC Hsig]
  · isplitl [Hsig]; · iexact Hsig
    iexact HC
  iintro ⟨-, HC⟩
  isplitl [HC]
  · iapply (Entails.of_eq (congrArg (ctx m K c) (show O₁ c + owB c [] = O₁ c from add_zero _))); iexact HC
  isplitl [C0]; · iexact C0
  isplitl [C1]; · iexact C1
  isplitl [C2]; · iexact C2
  isplitl [C3] <;> iassumption

/-! ## Stage -/

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl
omit [FloatOps F] in
theorem hz4 : (![0, 0, 0, 0] : Fin 4 → Nat) = fun _ => 0 := funext fun a => by fin_cases a <;> rfl

/-- The payloads that put a stage into the own slot change nothing. -/
theorem pay4_id (a : Vec F S2x128x128 .i8) : k0_pay4 a = a := by
  unfold k0_pay4; exact shapeCast_self _ _
theorem pay5_id (a : Vec F S2x128x128 .bf16) : k0_pay5 a = a := by
  unfold k0_pay5; exact shapeCast_self _ _

theorem sub_slotK (s : Fin 8) : (kG.access (slotR s)).setOn Finset.univ ⊆ (kSlot s).view.set := by
  exact subset_rfl
theorem subL_slotK (s : Fin 8) : kG.view.setOn (slotR s).toLoadRect.set ⊆ (kSlot s).view.set := by
  show _ ⊆ (kG.view.slice (slotR s)).set
  rw [View.set_slice]
  exact subset_rfl
theorem sub_slotV (s : Fin 8) : (vG.access (slotR s)).setOn Finset.univ ⊆ (vSlot s).view.set := by
  exact subset_rfl
theorem subL_slotV (s : Fin 8) : vG.view.setOn (slotR s).toLoadRect.set ⊆ (vSlot s).view.set := by
  show _ ⊆ (vG.view.slice (slotR s)).set
  rw [View.set_slice]
  exact subset_rfl

theorem wp_phStage :
    iprop(ctx m K c (O₁ c) ∗ (crd c (.inl 0) ∗ at0 c (.inl 0)) ∗ (crd c (.inl 1) ∗ at0 c (.inl 1))
        ∗ (∃ f, pts kS fullShare c f) ∗ (∃ f, pts vS fullShare c f) ∗ slotAny c 0 7 ∗ slotAny c 1 7)
      ⊢ WP c phStage fun _ => iprop(ctx m K c (O₁ c) ∗ (at1 c (.inl 0) ∗ payO m c (.inl 0)) ∗ (at1 c (.inl 1) ∗ payO m c (.inl 1))
        ∗ pts kS fullShare c (stK m c) ∗ pts vS fullShare c (stV m c) ∗ slotPay m c 0 7 ∗ slotPay m c 1 7) := by
  unfold phStage
  iintro ⟨HC, ⟨C0, A0⟩, ⟨C1, A1⟩, ⟨%fk, Hk⟩, ⟨%fv, Hv⟩, Hk7, Hv7⟩
  unfold slotAny
  icases Hk7 with ⟨%gk, Hk7⟩
  icases Hv7 with ⟨%gv, Hv7⟩
  iapply (wp_unit (wp_waitD m K c (.inl 0) 0 rfl kH kM _ _ rfl (O := O₁ c) (mayWait_O₁ c _ (by decide)))) $$ [HC C0 A0]
  · isplitl [HC]; · iexact HC
    isplitl [C0] <;> iassumption
  iintro ⟨HC, A0, P0⟩
  iapply (wp_unit (wp_waitD m K c (.inl 1) 1 rfl vH vM _ _ rfl (O := O₁ c) (mayWait_O₁ c _ (by decide)))) $$ [HC C1 A1]
  · isplitl [HC]; · iexact HC
    isplitl [C1] <;> iassumption
  iintro ⟨HC, A1, P1⟩
  unfold payO cpPay
  icases P0 with ⟨P0, P0'⟩
  icases P1 with ⟨P1, P1'⟩
  iapply (wp_step (wp_ld kM _ _ (by rw [View.set_whole]; exact Finset.subset_univ _))) $$ P0
  iintro %a ⟨%ha, P0⟩
  iapply (wp_step (wp_ld kS _ _ (by rw [View.set_whole]; exact Finset.subset_univ _))) $$ Hk
  iintro %u0 ⟨-, Hk⟩
  iapply (wp_unit (wp_st kS _ _ _ _ (by rw [View.set_whole]; exact Finset.subset_univ _))) $$ Hk
  iintro Hk
  iapply (wp_step (wp_ld vM _ _ (by rw [View.set_whole]; exact Finset.subset_univ _))) $$ P1
  iintro %b ⟨%hb, P1⟩
  iapply (wp_step (wp_ld vS _ _ (by rw [View.set_whole]; exact Finset.subset_univ _))) $$ Hv
  iintro %u1 ⟨-, Hv⟩
  iapply (wp_unit (wp_st vS _ _ _ _ (by rw [View.set_whole]; exact Finset.subset_univ _))) $$ Hv
  iintro Hv
  have ha' : a = kIn m c := ha.trans (Memref.readAt_unit_zero (Elt F) cc0_scratch3 hz4 _ _)
  have hb' : b = vIn m c := hb.trans (Memref.readAt_unit_zero (Elt F) cc0_scratch4 hz4 _ _)
  subst ha' hb'
  have ek : ∀ w : Vec F S2x128x128 .i8, (kS.access (Rect.unit (s := S2x128x128) ![0, 0, 0] S2x128x128.size inb_S2x128x128_S2x128x128_0_0_0)).write (Elt F) fk w Finset.univ = w :=
    fun w => Memref.write_access_unit_zero_univ (Elt F) cc0_scratch6 hz3 _ fk w
  have ev : ∀ w : Vec F S2x128x128 .bf16, (vS.access (Rect.unit (s := S2x128x128) ![0, 0, 0] S2x128x128.size inb_S2x128x128_S2x128x128_0_0_0)).write (Elt F) fv w Finset.univ = w :=
    fun w => Memref.write_access_unit_zero_univ (Elt F) cc0_scratch7 hz3 _ fv w
  rw [ek, ev]
  iapply (wp_step (wp_ld kS _ _ (by rw [View.set_whole]; exact Finset.subset_univ _))) $$ Hk
  iintro %a' ⟨%ha', Hk⟩
  iapply (wp_step (wp_ld (S := (kSlot 7).view.set) kG _ _ (subL_slotK 7))) $$ Hk7
  iintro %u2 ⟨-, Hk7⟩
  iapply (wp_unit (wp_st (S := (kSlot 7).view.set) kG _ _ _ _ (sub_slotK 7))) $$ Hk7
  iintro Hk7
  iapply (wp_step (wp_ld vS _ _ (by rw [View.set_whole]; exact Finset.subset_univ _))) $$ Hv
  iintro %b' ⟨%hb', Hv⟩
  iapply (wp_step (wp_ld (S := (vSlot 7).view.set) vG _ _ (subL_slotV 7))) $$ Hv7
  iintro %u3 ⟨-, Hv7⟩
  iapply (wp_uend (wp_st (S := (vSlot 7).view.set) vG _ _ _ _ (sub_slotV 7))) $$ Hv7
  iintro Hv7
  have ha2 : a' = stK m c := ha'.trans (Memref.readAt_unit_zero (Elt F) cc0_scratch6 hz3 _ _)
  have hb2 : b' = stV m c := hb'.trans (Memref.readAt_unit_zero (Elt F) cc0_scratch7 hz3 _ _)
  rw [pay4_id, pay5_id]
  isplitl [HC]; · iexact HC
  isplitl [A0 P0 P0']
  · isplitl [A0]; · iexact A0
    isplitl [P0] <;> iassumption
  isplitl [A1 P1 P1']
  · isplitl [A1]; · iexact A1
    isplitl [P1] <;> iassumption
  isplitl [Hk]; · iexact Hk
  isplitl [Hv]; · iexact Hv
  isplitl [Hk7]
  · iapply (Entails.of_eq (landK m c 7 gk a' (by rw [ha2, srcOf_own]))); iexact Hk7
  · iapply (Entails.of_eq (landV m c 7 gv b' (by rw [hb2, srcOf_own]))); iexact Hv7

/-! ## Send -/

/-- The tokens device `c`'s sends pay with. -/
def sendToks (v : Fin 2) : sProp 𝕄 := bigL (fun o => iprop(tok c (snd v o) ∗ tok (peer c o) (rcv v o))) offs

theorem sendNeeds (v : Fin 2) :
    iprop(sendToks (F := F) c v ∗ bigL (fun o => stgPay m c v (os o)) offs ∗ bigL (fun o => slotAny (peer c o) v (os o)) offs)
      ⊢ bigL (sendNeed m c v) offs := by
  unfold sendToks
  refine (sep_mono_right (bigL_sep _ _ offs).2).trans ((bigL_sep _ _ offs).2.trans (Entails.trans (Entails.of_eq ?_) (BI.Entails.refl _)))
  congr 1
  funext o
  unfold sendNeed
  refine BI.Entails.antisymm (show iprop((tok c (snd v o) ∗ tok (peer c o) (rcv v o)) ∗ stgPay m c v (os o) ∗ slotAny (peer c o) v (os o))
    ⊢ iprop(tok c (snd v o) ∗ tok (peer c o) (rcv v o) ∗ stgPay m c v (os o) ∗ slotAny (peer c o) v (os o)) from ?_) (show
    iprop(tok c (snd v o) ∗ tok (peer c o) (rcv v o) ∗ stgPay m c v (os o) ∗ slotAny (peer c o) v (os o))
    ⊢ iprop((tok c (snd v o) ∗ tok (peer c o) (rcv v o)) ∗ stgPay m c v (os o) ∗ slotAny (peer c o) v (os o)) from ?_)
  · (
    iintro ⟨⟨H1, H2⟩, H3, H4⟩
    isplitl [H1]; · iexact H1
    isplitl [H2]; · iexact H2
    isplitl [H3] <;> iassumption)
  · (
    iintro ⟨H1, H2, H3, H4⟩
    isplitl [H1 H2]
    · isplitl [H1] <;> iassumption
    isplitl [H3] <;> iassumption)

theorem wp_phSend :
    iprop(ctx m K c (O₁ c) ∗ cred (tallyAt (barCell c) () 7) ∗ atPos ER (barCell c) 0 ∅ 0 ∗ sendToks c 0 ∗ sendToks c 1
        ∗ pts kS fullShare c (stK m c) ∗ pts vS fullShare c (stV m c))
      ⊢ WP c (phSend c) fun _ => iprop(ctx m K c 0 ∗ atPos ER (barCell c) 1 ∅ 0
        ∗ bigL (fun o => crd c (snd 0 o)) offs ∗ bigL (fun o => crd c (snd 1 o)) offs
        ∗ stgPay m c 0 7 ∗ stgPay m c 1 7) := by
  unfold phSend
  iintro ⟨HC, Hc, Ha, Tk, Tv, Hk, Hv⟩
  iapply (wp_unit (wp_barWait m K c)) $$ [HC Hc Ha]
  · isplitl [HC]; · iexact HC
    isplitl [Hc] <;> iassumption
  iintro ⟨HC, Ha, Sk, Sv⟩
  ihave Hk' := (Entails.of_eq (kShares c (stK m c))) $$ Hk
  icases Hk' with ⟨Hk7, Hk⟩
  ihave Hv' := (Entails.of_eq (vShares c (stV m c))) $$ Hv
  icases Hv' with ⟨Hv7, Hv⟩
  ihave Nk := (sendNeeds m c 0) $$ [Tk Hk Sk]
  · isplitl [Tk]; · iexact Tk
    isplitl [Hk]; · iexact Hk
    iexact Sk
  ihave Nv := (sendNeeds m c 1) $$ [Tv Hv Sv]
  · isplitl [Tv]; · iexact Tv
    isplitl [Hv]; · iexact Hv
    iexact Sv
  iapply (wp_unit (wp_forL (c := c) (sendK c) (fun l => ctx m K c (owR c 1 offs + owR c 0 l)) (sendNeed m c 0) (fun o => crd c (snd 0 o))
    (fun o l => wp_sendK m K c (owR c 1 offs) o l) offs)) $$ [HC Nk]
  · isplitl [Nk]; · iexact Nk
    iexact HC
  iintro ⟨Ck, HC⟩
  ihave HC' := (Entails.of_eq (congrArg (ctx m K c) (show owR c 1 offs + owR c 0 [] = 0 + owR c 1 offs from (add_zero _).trans (zero_add _).symm))) $$ HC
  iapply (wp_uend (wp_forL (c := c) (sendV c) (fun l => ctx m K c (0 + owR c 1 l)) (sendNeed m c 1) (fun o => crd c (snd 1 o))
    (fun o l => wp_sendV m K c 0 o l) offs)) $$ [HC' Nv]
  · isplitl [Nv]; · iexact Nv
    iexact HC'
  iintro ⟨Cv, HC⟩
  isplitl [HC]
  · iapply (Entails.of_eq (congrArg (ctx m K c) (show 0 + owR c 1 [] = 0 from zero_add _))); iexact HC
  isplitl [Ha]; · iexact Ha
  isplitl [Ck]; · iexact Ck
  isplitl [Cv]; · iexact Cv
  unfold stgPay
  isplitl [Hk7]; · iexact Hk7
  iexact Hv7

/-! ## Queries -/

theorem wp_phQ :
    iprop(ctx m K c 0 ∗ (crd c (.inl 2) ∗ at0 c (.inl 2)) ∗ (crd c (.inl 3) ∗ at0 c (.inl 3)))
      ⊢ WP c phQ fun q => iprop(⌜q = qs m c⌝ ∗ ctx m K c 0 ∗ (at1 c (.inl 2) ∗ payO m c (.inl 2)) ∗ (at1 c (.inl 3) ∗ payO m c (.inl 3))) := by
  unfold phQ
  iintro ⟨HC, ⟨C0, A0⟩, ⟨C1, A1⟩⟩
  iapply (wp_unit (wp_waitD m K c (.inl 2) 2 rfl xH xM _ _ rfl (mayWait_zero c _))) $$ [HC C0 A0]
  · isplitl [HC]; · iexact HC
    isplitl [C0] <;> iassumption
  iintro ⟨HC, A0, P0⟩
  iapply (wp_unit (wp_waitD m K c (.inl 3) 3 rfl wqH wqM _ _ rfl (mayWait_zero c _))) $$ [HC C1 A1]
  · isplitl [HC]; · iexact HC
    isplitl [C1] <;> iassumption
  iintro ⟨HC, A1, P1⟩
  unfold payO cpPay
  icases P0 with ⟨P0, P0'⟩
  icases P1 with ⟨P1, P1'⟩
  iapply (wp_step (wp_ld xM _ _ (by rw [View.set_whole]; exact Finset.subset_univ _))) $$ P0
  iintro %x ⟨%hx, P0⟩
  iapply (wp_step (wp_ld wqM _ _ (by rw [View.set_whole]; exact Finset.subset_univ _))) $$ P1
  iintro %w ⟨%hw, P1⟩
  have hx' : x = xIn m c := hx.trans (Memref.readAt_unit_zero (Elt F) cc0_scratch0 hz3 _ _)
  have hw' : w = wqIn m c := hw.trans (Memref.readAt_unit_zero (Elt F) cc0_scratch1 hz2 _ _)
  subst hx' hw'
  iapply (wp_pure (F := F) (c := c))
  isplitr; · ipureintro; rfl
  isplitl [HC]; · iexact HC
  isplitl [A0 P0 P0']
  · isplitl [A0]; · iexact A0
    isplitl [P0] <;> iassumption
  · isplitl [A1]; · iexact A1
    isplitl [P1] <;> iassumption

end

end Cert.KernelIdeal.Coll
-- ==== Proof.IdealScore.lean ====
/- The scores: every slot of keys against the four stacked queries; and the result. -/
module

public import proofs.«01_k».proof.Proof.IdealPhases

@[expose] public section

set_option maxRecDepth 16000

noncomputable section

namespace Cert.KernelIdeal.Coll

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The weights' buffer -/

/-- The slot a column of weights belongs to. -/
def slotOf (i : S4x512x1024.Idx) : Fin 8 := ⟨(i 2).val / 128, by have : (i 2).val < 1024 := (i 2).isLt; omega⟩

theorem pR_set (s : Fin 8) (j : Fin 4) (i : S4x512x1024.Idx) : i ∈ (pR s j).set ↔ slotOf i = s ∧ i 0 = j := by
  rw [Rect.mem_set_unit]
  constructor
  · intro h
    have h0 : j.val ≤ (i 0).val ∧ (i 0).val < j.val + 1 := h 0
    have h2 : 128 * s.val ≤ (i 2).val ∧ (i 2).val < 128 * s.val + 128 := h 2
    exact ⟨Fin.ext (by show (i 2).val / 128 = s.val; omega), Fin.ext (by omega)⟩
  · rintro ⟨hs, hj⟩ a
    have hs' : (i 2).val / 128 = s.val := congrArg Fin.val hs
    have hj' : (i 0).val = j.val := congrArg Fin.val hj
    have h1 : (i 1).val < 512 := (i 1).isLt
    match a with
    | ⟨0, _⟩ => exact ⟨hj'.ge, (by omega : (i 0).val < j.val + 1)⟩
    | ⟨1, _⟩ => exact ⟨Nat.zero_le _, (by omega : (i 1).val < 0 + 512)⟩
    | ⟨2, _⟩ => exact ⟨(by omega : 128 * s.val ≤ (i 2).val), (by omega : (i 2).val < 128 * s.val + 128)⟩

theorem wts_emb (c : Dev nD) (s : Fin 8) (j : Fin 4) (y : S1x512x128.Idx) :
    wts m c ((pR s j).emb y) = pblk m c s j y := by
  have h0 : (((pR s j).emb y) 0).val = j.val + 1 * (y 0).val := rfl
  have h1 : (((pR s j).emb y) 1).val = 0 + 1 * (y 1).val := rfl
  have h2 : (((pR s j).emb y) 2).val = 128 * s.val + 1 * (y 2).val := rfl
  have l0 : (y 0).val < 1 := (y 0).isLt
  have l2 : (y 2).val < 128 := (y 2).isLt
  unfold wts
  have es : (⟨(((pR s j).emb y) 2).val / 128, by omega⟩ : Fin 8) = s := Fin.ext (by show _ / 128 = _; omega)
  have ej : ((pR s j).emb y) 0 = j := Fin.ext (by omega)
  rw [es, ej]
  congr 1
  funext a
  match a with
  | ⟨0, _⟩ => exact Fin.ext (show 0 = (y 0).val by omega)
  | ⟨1, _⟩ => exact Fin.ext (show (((pR s j).emb y) 1).val = (y 1).val by omega)
  | ⟨2, _⟩ => exact Fin.ext (show (((pR s j).emb y) 2).val % 128 = (y 2).val by omega)

/-- The buffer holds the weights of the slots and pairs in `D`. -/
def pHas (c : Dev nD) (D : Fin 8 → Fin 4 → Prop) : sProp 𝕄 :=
  iprop(∃ f, ⌜∀ i : S4x512x1024.Idx, D (slotOf i) (i 0) → f i = wts m c i⌝ ∗ pts pM fullShare c f)

theorem pHas_mono (c : Dev nD) {D D' : Fin 8 → Fin 4 → Prop} (h : ∀ s j, D' s j → D s j) : pHas m c D ⊢ pHas m c D' := by
  unfold pHas
  iintro ⟨%f, %hf, H⟩
  iexists f
  isplitr; · ipureintro; exact fun i hi => hf i (h _ _ hi)
  iexact H

theorem pHas_all (c : Dev nD) {D : Fin 8 → Fin 4 → Prop} (h : ∀ s j, D s j) : pHas m c D ⊢ pts pM fullShare c (wts m c) := by
  unfold pHas
  iintro ⟨%f, %hf, H⟩
  have e : f = wts m c := funext fun i => hf i (h _ _)
  subst e
  iexact H

/-! ## Scores -/

section
variable (K : Dev nD × CI → ℕ) (c : Dev nD)

theorem subL_kb (s : Fin 8) (j : Fin 4) : kG.view.setOn (kbR s j).toLoadRect.set ⊆ (kSlot s).view.set := by
  rw [kSlot_set]
  intro i hi
  obtain ⟨y, hy, rfl⟩ := Finset.mem_map.mp hi
  have hy' : y ∈ (kbR s j).set := hy
  rw [Rect.mem_set_unit] at hy'
  have h1 : 128 * s.val ≤ (y 1).val ∧ (y 1).val < 128 * s.val + 128 := hy' 1
  exact slot_mem s y h1.1 h1.2

theorem wp_scoreStep (s : Fin 8) (j : Fin 4) (D : Fin 8 → Fin 4 → Prop) :
    iprop(slotPay m c 0 s ∗ pHas m c D)
      ⊢ WP c (scoreStep s j (qs m c j)) fun kb => iprop(⌜kb = kblk m c s j⌝ ∗ slotPay m c 0 s
        ∗ pHas m c fun s' j' => D s' j' ∨ (s' = s ∧ j' = j)) := by
  unfold scoreStep slotPay pHas
  iintro ⟨HK, ⟨%f, %hf, HP⟩⟩
  iapply (wp_step (wp_ld (S := (kSlot s).view.set) kG _ _ (subL_kb s j))) $$ HK
  iintro %kb ⟨%hk, HK⟩
  have hk' : kb = kblk m c s j := hk
  subst hk'
  iapply (wp_step (wp_ld pM _ _ (by rw [View.set_whole]; exact Finset.subset_univ _))) $$ HP
  iintro %u ⟨-, HP⟩
  iapply (wp_unit (wp_st pM _ _ _ _ (by rw [View.set_whole]; exact Finset.subset_univ _))) $$ HP
  iintro HP
  iapply (wp_pure (F := F) (c := c))
  isplitr; · ipureintro; rfl
  isplitl [HK]; · iexact HK
  iexists _
  isplitr
  rotate_left
  · iexact HP
  ipureintro
  intro i hi
  by_cases h : slotOf i = s ∧ i 0 = j
  · have hm : i ∈ (pM.access (pR s j)).set := by
      rw [show (pM.access (pR s j)).set = (pR s j).set from View.set_slice_whole _ _]; exact (pR_set s j i).mpr h
    obtain ⟨y, -, rfl⟩ := Finset.mem_map.mp hm
    refine (View.write_emb_of_mem (v := pM.access (pR s j)) f _ (Finset.mem_univ y)).trans ?_
    exact (wts_emb m c s j y).symm
  · have hD := hi.resolve_right h
    refine (View.write_of_not_mem (v := pM.access (pR s j)) f _ Finset.univ fun hh => h ((pR_set s j i).mp ?_)).trans (hf i hD)
    have hh' : i ∈ (pM.access (pR s j)).set := hh
    rwa [show (pM.access (pR s j)).set = (pR s j).set from View.set_slice_whole _ _] at hh'

theorem wp_score (s : Fin 8) (l : Fin 4 → FVec F S512x1 .f32) (D : List (Fin 8)) :
    iprop(slotPay m c 0 s ∗ pHas m c fun s' _ => s' ∈ D)
      ⊢ WP c (score s (qs m c) l) fun l' => iprop(⌜l' = lnext m c l s⌝ ∗ slotPay m c 0 s ∗ pHas m c fun s' _ => s' ∈ s :: D) := by
  unfold score
  iintro H
  iapply (wp_step (wp_scoreStep m c s 0 _)) $$ H
  iintro %k0 ⟨%h0, H⟩
  iapply (wp_step (wp_scoreStep m c s 1 _)) $$ H
  iintro %k1 ⟨%h1, H⟩
  iapply (wp_step (wp_scoreStep m c s 2 _)) $$ H
  iintro %k2 ⟨%h2, H⟩
  iapply (wp_step (wp_scoreStep m c s 3 _)) $$ H
  iintro %k3 ⟨%h3, HK, HP⟩
  subst h0 h1 h2 h3
  iapply (wp_pure (F := F) (c := c))
  isplitr; · ipureintro; rfl
  isplitl [HK]; · iexact HK
  iapply (pHas_mono m c ?_) $$ HP
  intro s' j' hs
  rcases List.mem_cons.mp hs with rfl | hs
  · revert j'; intro j'
    fin_cases j'
    · exact .inl (.inl (.inl (.inr ⟨rfl, rfl⟩)))
    · exact .inl (.inl (.inr ⟨rfl, rfl⟩))
    · exact .inl (.inr ⟨rfl, rfl⟩)
    · exact .inr ⟨rfl, rfl⟩
  · exact .inl (.inl (.inl (.inl hs)))

/-- The slots in a list, waited for and scored. -/
theorem wp_scores (os' : List (Fin 7)) : ∀ (l : Fin 4 → FVec F S512x1 .f32) (D : List (Fin 8)),
    iprop(ctx m K c 0 ∗ bigL (fun o => iprop(crd c (rcv 0 o) ∗ at0 c (rcv 0 o))) os' ∗ pHas m c fun s _ => s ∈ D)
      ⊢ WP c (scores (qs m c) os' l) fun l' => iprop(⌜l' = os'.foldl (fun l o => lnext m c l (os o)) l⌝ ∗ ctx m K c 0
        ∗ bigL (fun o => iprop(at1 c (rcv 0 o) ∗ payO m c (rcv 0 o))) os'
        ∗ pHas m c fun s _ => s ∈ os'.foldl (fun D o => os o :: D) D) := by
  induction os' with
  | nil =>
    intro l D
    unfold scores
    iintro ⟨HC, HB, HP⟩
    iapply (wp_pure (F := F) (c := c))
    isplitr; · ipureintro; rfl
    isplitl [HC]; · iexact HC
    isplitl [HB]; · iexact HB
    iexact HP
  | cons o os' ih =>
    intro l D
    unfold scores
    iintro ⟨HC, HB0, HP⟩
    ihave HB1 := (Entails.of_eq (show bigL (fun o => iprop(crd c (rcv 0 o) ∗ at0 c (rcv 0 o))) (o :: os')
      = iprop((crd c (rcv 0 o) ∗ at0 c (rcv 0 o)) ∗ bigL (fun o => iprop(crd c (rcv 0 o) ∗ at0 c (rcv 0 o))) os') from rfl)) $$ HB0
    icases HB1 with ⟨HB, HBs⟩
    iapply (wp_unit (wp_recvK m K c o)) $$ [HC HB]
    · isplitl [HB] <;> iassumption
    iintro ⟨⟨HA, HS⟩, HC⟩
    iapply (wp_step (wp_score m c (os o) l D)) $$ [HS HP]
    · isplitl [HS]
      · unfold payO; iexact HS
      iexact HP
    iintro %l' ⟨%hl, HS, HP⟩
    subst hl
    iapply (wp_end (ih (lnext m c l (os o)) (os o :: D))) $$ [HC HBs HP]
    · isplitl [HC]; · iexact HC
      isplitl [HBs]; · iexact HBs
      iexact HP
    iintro %l'' ⟨%hl, HC, HBs, HP⟩
    isplitr; · ipureintro; exact hl
    isplitl [HC]; · iexact HC
    isplitl [HA HS HBs]
    · iapply (Entails.of_eq (show iprop((at1 c (rcv 0 o) ∗ payO m c (rcv 0 o)) ∗ bigL (fun o => iprop(at1 c (rcv 0 o) ∗ payO m c (rcv 0 o))) os')
        = bigL (fun o => iprop(at1 c (rcv 0 o) ∗ payO m c (rcv 0 o))) (o :: os') from rfl))
      isplitl [HA HS]
      · isplitl [HA]; · iexact HA
        unfold payO; iexact HS
      iexact HBs
    iexact HP

/-! ## The result -/

theorem readPair_val (j : Fin 4) :
    iprop(pts vG fullShare c (gatV m c) ∗ pts pM fullShare c (wts m c))
      ⊢ WP c (readPair j) fun a => iprop(⌜a = (vblk m c j, pbig m c j)⌝ ∗ pts vG fullShare c (gatV m c) ∗ pts pM fullShare c (wts m c)) := by
  unfold readPair
  iintro ⟨HV, HP⟩
  iapply (wp_step (wp_ld vG _ _ (by rw [View.set_whole]; exact Finset.subset_univ _))) $$ HV
  iintro %v ⟨%hv, HV⟩
  iapply (wp_step (wp_ld pM _ _ (by rw [View.set_whole]; exact Finset.subset_univ _))) $$ HP
  iintro %p ⟨%hp, HP⟩
  iapply (wp_pure (F := F) (c := c))
  isplitr; · ipureintro; rw [hv, hp]; rfl
  isplitl [HV] <;> iassumption

theorem wp_putOut (b : Fin 2) (w : FVec F S1x128x512 .bf16) (f : Buf (Elt F) (oM.view.loc (c : Thread nD τ))) :
    (pts oM fullShare c f : sProp 𝕄) ⊢ WP c (putOut b w) fun _ => pts oM fullShare c ((oM.access (obR b)).write (Elt F) f w Finset.univ) := by
  unfold putOut
  iintro H
  iapply (wp_step (wp_ld oM _ _ (by rw [View.set_whole]; exact Finset.subset_univ _))) $$ H
  iintro %u ⟨-, H⟩
  iapply (wp_uend (wp_st oM _ _ _ _ (by rw [View.set_whole]; exact Finset.subset_univ _))) $$ H
  iintro H
  iexact H

theorem obR_set (b : Fin 2) (i : S2x128x512.Idx) : i ∈ (obR b).set ↔ i 0 = b := by
  rw [Rect.mem_set_unit]
  constructor
  · intro h
    have h0 : b.val ≤ (i 0).val ∧ (i 0).val < b.val + 1 := h 0
    exact Fin.ext (by omega)
  · intro h a
    have h' : (i 0).val = b.val := congrArg Fin.val h
    have h1 : (i 1).val < 128 := (i 1).isLt
    have h2 : (i 2).val < 512 := (i 2).isLt
    match a with
    | ⟨0, _⟩ => exact ⟨h'.ge, (by omega : (i 0).val < b.val + 1)⟩
    | ⟨1, _⟩ => exact ⟨Nat.zero_le _, (by omega : (i 1).val < 0 + 128)⟩
    | ⟨2, _⟩ => exact ⟨Nat.zero_le _, (by omega : (i 2).val < 0 + 512)⟩

omit m c in
/-- One batch's rows, read where they were stored and elsewhere. -/
theorem write_ob (b : Fin 2) (w : FVec F S1x128x512 .bf16) (f : Vec F S2x128x512 .bf16) (i : S2x128x512.Idx) :
    (oM.access (obR b)).write (Elt F) f w Finset.univ i = if (i 0).val = b.val then w (ix3 0 (i 1) (i 2)) else f i := by
  split
  · rename_i h
    have hm : i ∈ (oM.access (obR b)).set := by
      rw [show (oM.access (obR b)).set = (obR b).set from View.set_slice_whole _ _]; exact (obR_set b i).mpr (Fin.ext h)
    obtain ⟨y, -, rfl⟩ := Finset.mem_map.mp hm
    refine (View.write_emb_of_mem (v := oM.access (obR b)) f _ (Finset.mem_univ y)).trans ?_
    have l0 : (y 0).val < 1 := (y 0).isLt
    refine congrArg w (funext fun a => ?_)
    match a with
    | ⟨0, _⟩ => exact Fin.ext (show (y 0).val = 0 by omega)
    | ⟨1, _⟩ => exact Fin.ext (show (y 1).val = 0 + 1 * (y 1).val by omega)
    | ⟨2, _⟩ => exact Fin.ext (show (y 2).val = 0 + 1 * (y 2).val by omega)
  · rename_i h
    refine View.write_of_not_mem (v := oM.access (obR b)) f _ Finset.univ fun hh => h (congrArg Fin.val ((obR_set b i).mp ?_))
    have hh' : i ∈ (oM.access (obR b)).set := hh
    rwa [show (oM.access (obR b)).set = (obR b).set from View.set_slice_whole _ _] at hh'

theorem write_out (f : Vec F S2x128x512 .bf16) :
    (oM.access (obR 1)).write (Elt F) ((oM.access (obR 0)).write (Elt F) f (out0 m c) Finset.univ) (out1 m c) Finset.univ = out m c := by
  refine funext fun (i : S2x128x512.Idx) => (write_ob 1 (out1 m c) _ i).trans ?_
  have l0 : (i 0).val < 2 := (i 0).isLt
  unfold out
  by_cases h : (i 0).val = 0
  · refine (if_neg (fun e => ?_)).trans ((write_ob 0 (out0 m c) f i).trans ((if_pos ?_).trans (if_pos h).symm))
    · have e' : (i 0).val = 1 := e
      omega
    · exact h
  · refine (if_pos ?_).trans (if_neg h).symm
    show (i 0).val = 1
    omega

theorem wp_phOut :
    iprop(ctx m K c 0 ∗ bigL (fun o => iprop(crd c (rcv 1 o) ∗ at0 c (rcv 1 o))) offs ∗ (crd c (.inl 4) ∗ at0 c (.inl 4))
        ∗ slotPay m c 1 7 ∗ pts pM fullShare c (wts m c) ∗ (∃ f, pts oM fullShare c f))
      ⊢ WP c (phOut (lall m c)) fun _ => iprop(ctx m K c 0 ∗ bigL (fun o => at1 c (rcv 1 o)) offs
        ∗ (at1 c (.inl 4) ∗ payO m c (.inl 4)) ∗ pts vG fullShare c (gatV m c) ∗ pts pM fullShare c (wts m c)
        ∗ pts oM fullShare c (out m c)) := by
  unfold phOut
  iintro ⟨HC, HR, HW, HS7, HP, ⟨%f, HO⟩⟩
  iapply (wp_unit (wp_forL (c := c) recvV (fun _ => ctx m K c 0) (fun o => iprop(crd c (rcv 1 o) ∗ at0 c (rcv 1 o)))
    (fun o => iprop(at1 c (rcv 1 o) ∗ payO m c (rcv 1 o))) (fun o l => wp_recvV m K c o) offs)) $$ [HC HR]
  · isplitl [HR] <;> iassumption
  iintro ⟨HR, HC⟩
  ihave HR' := (bigL_sep (fun o => at1 c (rcv 1 o)) (fun o => payO m c (rcv 1 o)) offs).1 $$ HR
  icases HR' with ⟨HA, HS⟩
  ihave HV := (Entails.of_eq (vSlots c (gatV m c)).symm) $$ [HS7 HS]
  · isplitl [HS7]
    · unfold slotPay; iexact HS7
    iexact HS
  icases HW with ⟨C4, A4⟩
  iapply (wp_unit (wp_waitD m K c (.inl 4) 4 rfl woH woM _ _ rfl (mayWait_zero c _))) $$ [HC C4 A4]
  · isplitl [HC]; · iexact HC
    isplitl [C4] <;> iassumption
  iintro ⟨HC, A4, P4⟩
  unfold payO cpPay
  icases P4 with ⟨P4, P4'⟩
  iapply (wp_step (wp_ld woM _ _ (by rw [View.set_whole]; exact Finset.subset_univ _))) $$ P4
  iintro %wo ⟨%hwo, P4⟩
  have hwo' : wo = woIn m c := hwo.trans (Memref.readAt_unit_zero (Elt F) cc0_scratch2 hz2 _ _)
  iapply (wp_step (readPair_val m c 0)) $$ [HV HP]
  · isplitl [HV] <;> iassumption
  iintro %a ⟨%ha, HV, HP⟩
  iapply (wp_step (readPair_val m c 1)) $$ [HV HP]
  · isplitl [HV] <;> iassumption
  iintro %b ⟨%hb, HV, HP⟩
  iapply (wp_unit (wp_putOut c 0 _ f)) $$ HO
  iintro HO
  iapply (wp_step (readPair_val m c 2)) $$ [HV HP]
  · isplitl [HV] <;> iassumption
  iintro %a' ⟨%ha', HV, HP⟩
  iapply (wp_step (readPair_val m c 3)) $$ [HV HP]
  · isplitl [HV] <;> iassumption
  iintro %b' ⟨%hb', HV, HP⟩
  iapply (wp_uend (wp_putOut c 1 _ _)) $$ HO
  iintro HO
  subst ha hb ha' hb' hwo'
  isplitl [HC]; · iexact HC
  isplitl [HA]; · iexact HA
  isplitl [A4 P4 P4']
  · isplitl [A4]; · iexact A4
    isplitl [P4] <;> iassumption
  isplitl [HV]; · iexact HV
  isplitl [HP]; · iexact HP
  iapply (Entails.of_eq (congrArg (fun w => pts oM fullShare c w) (write_out m c f))); iexact HO

/-! ## The end -/

theorem wp_sentStep (o : Fin 7) :
    iprop(((crd c (snd 0 o) ∗ at0 c (snd 0 o)) ∗ (crd c (snd 1 o) ∗ at0 c (snd 1 o))) ∗ ctx m K c 0)
      ⊢ WP c (do sentK o; sentV o) fun _ => iprop(((at1 c (snd 0 o) ∗ at1 c (snd 1 o)) ∗ (payO m c (snd 0 o) ∗ payO m c (snd 1 o))) ∗ ctx m K c 0) := by
  iintro ⟨⟨HK, HV⟩, HC⟩
  iapply (wp_unit (wp_sentK m K c o)) $$ [HK HC]
  · isplitl [HK] <;> iassumption
  iintro ⟨⟨AK, HK⟩, HC⟩
  iapply (wp_uend (wp_sentV m K c o)) $$ [HV HC]
  · isplitl [HV] <;> iassumption
  iintro ⟨⟨AV, HV⟩, HC⟩
  isplitr [HC]
  · isplitl [AK AV]
    · isplitl [AK] <;> iassumption
    · isplitl [HK] <;> iassumption
  iexact HC

theorem wp_phEnd :
    iprop(ctx m K c 0 ∗ pts oM fullShare c (out m c) ∗ (∃ f, pts oH fullShare c f) ∗ (tok c (.inl 5) ∗ at0 c (.inl 5))
        ∗ bigL (fun o => iprop((crd c (snd 0 o) ∗ at0 c (snd 0 o)) ∗ (crd c (snd 1 o) ∗ at0 c (snd 1 o)))) offs
        ∗ stgPay m c 0 7 ∗ stgPay m c 1 7)
      ⊢ WP c phEnd fun _ => iprop(ctx m K c 0 ∗ (at1 c (.inl 5) ∗ payO m c (.inl 5))
        ∗ bigL (fun o => iprop(at1 c (snd 0 o) ∗ at1 c (snd 1 o))) offs
        ∗ pts kS fullShare c (stK m c) ∗ pts vS fullShare c (stV m c)) := by
  unfold phEnd
  iintro ⟨HC, HO, ⟨%f, HH⟩, ⟨T5, A5⟩, HS, HK7, HV7⟩
  iapply (wp_unit (wp_cpStart m K c 5 5 rfl oM oH (Memref.isWhole_whole _).wordExact (Memref.isWhole_whole _).wordExact ⟨Or.inl rfl, trivial⟩ (O := 0) (out m c) f rfl
    (by rw [View.read_whole]; exact Entails.of_eq (congrArg (fun w => iprop(pts oH fullShare c w ∗ pts oM fullShare c (out m c))) (View.write_whole_univ _ _ _))))) $$ [HC HO HH T5]
  · isplitl [HC]; · iexact HC
    isplitl [HO]; · iexact HO
    isplitl [HH] <;> iassumption
  iintro ⟨HC, C5⟩
  iapply (wp_unit (wp_waitD m K c (.inl 5) 5 rfl oM oH _ _ rfl (mayWait_zero c _))) $$ [HC C5 A5]
  · isplitl [HC]; · iexact HC
    isplitl [C5] <;> iassumption
  iintro ⟨HC, A5, P5⟩
  iapply (wp_uend (wp_forL (c := c) (fun o => do sentK o; sentV o) (fun _ => ctx m K c 0) _ _ (fun o l => wp_sentStep m K c o) offs)) $$ [HC HS]
  · isplitl [HS] <;> iassumption
  iintro ⟨HS, HC⟩
  ihave HS' := (bigL_sep (fun o => iprop(at1 c (snd 0 o) ∗ at1 c (snd 1 o))) (fun o => iprop(payO m c (snd 0 o) ∗ payO m c (snd 1 o))) offs).1 $$ HS
  icases HS' with ⟨HA, HS⟩
  ihave HS' := (bigL_sep (fun o => payO m c (snd 0 o)) (fun o => payO m c (snd 1 o)) offs).1 $$ HS
  icases HS' with ⟨HK, HV⟩
  isplitl [HC]; · iexact HC
  isplitl [A5 P5]
  · isplitl [A5] <;> iassumption
  isplitl [HA]; · iexact HA
  isplitl [HK7 HK]
  · iapply (Entails.of_eq (kShares c (stK m c)).symm)
    isplitl [HK7]
    · unfold stgPay; iexact HK7
    iexact HK
  · iapply (Entails.of_eq (vShares c (stV m c)).symm)
    isplitl [HV7]
    · unfold stgPay; iexact HV7
    iexact HV

end

end Cert.KernelIdeal.Coll
-- ==== Proof.IdealWhole.lean ====
/- The whole body on one device, phase after phase, from the buffers, tokens and credits dealt to it to the result. -/
module

public import proofs.«01_k».proof.Proof.IdealScore

@[expose] public section

set_option maxRecDepth 16000

noncomputable section

namespace Cert.KernelIdeal.Coll

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Lists of resources -/

theorem bigL_mono {ι : Type} {R S : ι → sProp 𝕄} (h : ∀ i, R i ⊢ S i) : ∀ l, bigL R l ⊢ bigL S l
  | [] => BI.Entails.refl _
  | i :: l => BI.sep_mono (h i) (bigL_mono h l)

/-- The offsets backwards, and in the order of arrival. -/
theorem bigL_rev (R : Fin 7 → sProp 𝕄) : bigL R offs = bigL (fun o => R (Fin.rev o)) offs := by
  rw [← bigL_offs, ← bigL_offs, bigSep_univ_equiv Fin.revPerm]; rfl
theorem bigL_arr (R : Fin 7 → sProp 𝕄) : bigL R arr = bigL R offs := by
  rw [← bigL_offs, bigSep_univ_eq_bigSepL arr (by decide) (by decide)]
  simp only [arr, bigSepL_cons, bigSepL_nil, bigL]
  rfl

/-- The uses of the DMA semaphores, one by one. -/
theorem oi_split (R : OI → sProp 𝕄) : bigSep Finset.univ R
    = iprop((R (.inl 0) ∗ R (.inl 1) ∗ R (.inl 2) ∗ R (.inl 3) ∗ R (.inl 4) ∗ R (.inl 5))
      ∗ (bigL (fun o => R (snd 0 o)) offs ∗ bigL (fun o => R (snd 1 o)) offs)
      ∗ (bigL (fun o => R (rcv 0 o)) offs ∗ bigL (fun o => R (rcv 1 o)) offs)) := by
  have h2 : ∀ S : Fin 2 × Fin 7 → sProp 𝕄, bigSep Finset.univ S = iprop(bigL (fun o => S (0, o)) offs ∗ bigL (fun o => S (1, o)) offs) := fun S => by
    rw [bigSep_univ_prod, bigSep_univ_eq_bigSepL [0, 1] (by decide) (by decide), ← bigL_offs, ← bigL_offs]; rfl
  rw [bigSep_univ_sum, bigSep_univ_sum, h2, h2, bigSep_univ_eq_bigSepL [0, 1, 2, 3, 4, 5] (by decide) (by decide)]
  rfl

section
variable (K : Dev nD × CI → ℕ) (c : Dev nD)

/-- A gathered array at any contents is its slots at any contents. -/
theorem kAny : iprop(∃ f, pts kG fullShare c f) ⊢ (iprop(slotAny c 0 7 ∗ bigL (fun o => slotAny c 0 (os (Fin.rev o))) offs) : sProp 𝕄) := by
  iintro ⟨%f, H⟩
  ihave H' := (Entails.of_eq (kSlots c f)) $$ H
  icases H' with ⟨H7, H⟩
  isplitl [H7]
  · unfold slotAny; iexists f; iexact H7
  iapply ((bigL_mono (fun o => show pts (kSlot (os o)) fullShare c f ⊢ slotAny c 0 (os o) from by unfold slotAny; iintro H; iexists f; iexact H) offs).trans
    (Entails.of_eq (bigL_rev (fun o => slotAny c 0 (os o)))))
  iexact H
theorem vAny : iprop(∃ f, pts vG fullShare c f) ⊢ (iprop(slotAny c 1 7 ∗ bigL (fun o => slotAny c 1 (os (Fin.rev o))) offs) : sProp 𝕄) := by
  iintro ⟨%f, H⟩
  ihave H' := (Entails.of_eq (vSlots c f)) $$ H
  icases H' with ⟨H7, H⟩
  isplitl [H7]
  · unfold slotAny; iexists f; iexact H7
  iapply ((bigL_mono (fun o => show pts (vSlot (os o)) fullShare c f ⊢ slotAny c 1 (os o) from by unfold slotAny; iintro H; iexists f; iexact H) offs).trans
    (Entails.of_eq (bigL_rev (fun o => slotAny c 1 (os o)))))
  iexact H

/-- Device `c`'s scratch buffers, at any contents. -/
def scr : sProp 𝕄 :=
  iprop((∃ f, pts xM fullShare c f) ∗ (∃ f, pts wqM fullShare c f) ∗ (∃ f, pts woM fullShare c f) ∗ (∃ f, pts kM fullShare c f)
    ∗ (∃ f, pts vM fullShare c f) ∗ (∃ f, pts oM fullShare c f) ∗ (∃ f, pts kS fullShare c f) ∗ (∃ f, pts vS fullShare c f)
    ∗ (∃ f, pts kG fullShare c f) ∗ (∃ f, pts vG fullShare c f) ∗ (∃ f, pts pM fullShare c f))

/-- The tokens of the duties device `c` pays. -/
def payToks : sProp 𝕄 :=
  iprop((tok c (.inl 0) ∗ tok c (.inl 1) ∗ tok c (.inl 2) ∗ tok c (.inl 3) ∗ tok c (.inl 4) ∗ tok c (.inl 5))
    ∗ (sendToks c 0 ∗ sendToks c 1) ∗ bigL (fun o => dutyTok ER (barCell (peer c o)) 0 o) offs)

/-- What the launch deals device `c` beside its scratch buffers. -/
def start : sProp 𝕄 :=
  iprop((argsIn m c ∗ ∃ f, pts oH fullShare c f)
    ∗ (cred (tallyAt (barCell c) () 7) ∗ bigL (fun o => crd c (rcv 0 o)) offs ∗ bigL (fun o => crd c (rcv 1 o)) offs)
    ∗ (atPos ER (barCell c) 0 ∅ 0 ∗ bigSep Finset.univ (at0 c)) ∗ payToks c)

/-- What it holds at the end. -/
def final : sProp 𝕄 :=
  iprop((argsIn m c ∗ pts oH fullShare c (out m c)) ∗ scr c ∗ atPos ER (barCell c) 1 ∅ 0 ∗ bigSep Finset.univ (at1 c))

theorem bigL_pair {ι : Type} (R S : ι → sProp 𝕄) (l : List ι) : iprop(bigL R l ∗ bigL S l) ⊢ bigL (fun i => iprop(R i ∗ S i)) l :=
  (bigL_sep R S l).2

set_option maxHeartbeats 1000000 in
/-- The body. -/
theorem wp_body :
    iprop(ctx m K c (O₀ c) ∗ start m c ∗ scr c) ⊢ WP c (bodyOn c) fun _ => iprop(ctx m K c 0 ∗ final m c) := by
  unfold bodyOn start scr payToks
  rw [oi_split (at0 c)]
  iintro ⟨HC, ⟨⟨Hargs, Ho⟩, ⟨Cb, Ck, Cv⟩, ⟨Ab, ⟨A0, A1, A2, A3, A4, A5⟩, ⟨Ask, Asv⟩, Ark, Arv⟩, ⟨T0, T1, T2, T3, T4, T5⟩, ⟨Tsk, Tsv⟩, Tb⟩,
    ⟨Hx, Hwq, Hwo, Hk, Hv, HoM, HkS, HvS, HkG, HvG, HpM⟩⟩
  ihave HkG' := (kAny c) $$ HkG
  icases HkG' with ⟨Hk7, HkG⟩
  ihave HvG' := (vAny c) $$ HvG
  icases HvG' with ⟨Hv7, HvG⟩
  ihave HG := (bigL_pair _ _ offs) $$ [HkG HvG]
  · isplitl [HkG] <;> iassumption
  ihave HG := (bigL_pair _ _ offs) $$ [Tb HG]
  · isplitl [Tb] <;> iassumption
  iapply (wp_unit (wp_phStart m K c)) $$ [HC Hargs Hx Hwq Hwo Hk Hv T0 T1 T2 T3 T4 HG]
  · isplitl [HC]; · iexact HC
    isplitl [Hargs]; · iexact Hargs
    isplitl [Hx Hwq Hwo Hk Hv]
    · unfold argStages
      isplitl [Hk]; · iexact Hk
      isplitl [Hv]; · iexact Hv
      isplitl [Hx]; · iexact Hx
      isplitl [Hwq] <;> iassumption
    isplitl [T0 T1 T2 T3 T4]
    · isplitl [T0]; · iexact T0
      isplitl [T1]; · iexact T1
      isplitl [T2]; · iexact T2
      isplitl [T3] <;> iassumption
    iexact HG
  iintro ⟨HC, C0, C1, C2, C3, C4⟩
  iapply (wp_unit (wp_phStage m K c)) $$ [HC C0 A0 C1 A1 HkS HvS Hk7 Hv7]
  · isplitl [HC]; · iexact HC
    isplitl [C0 A0]; · isplitl [C0] <;> iassumption
    isplitl [C1 A1]; · isplitl [C1] <;> iassumption
    isplitl [HkS]; · iexact HkS
    isplitl [HvS]; · iexact HvS
    isplitl [Hk7] <;> iassumption
  iintro ⟨HC, ⟨A0, P0⟩, ⟨A1, P1⟩, HkS, HvS, Hk7, Hv7⟩
  iapply (wp_unit (wp_phSend m K c)) $$ [HC Cb Ab Tsk Tsv HkS HvS]
  · isplitl [HC]; · iexact HC
    isplitl [Cb]; · iexact Cb
    isplitl [Ab]; · iexact Ab
    isplitl [Tsk]; · iexact Tsk
    isplitl [Tsv]; · iexact Tsv
    isplitl [HkS] <;> iassumption
  iintro ⟨HC, Ab, Csk, Csv, Hs7, Ht7⟩
  iapply (wp_step (wp_phQ m K c)) $$ [HC C2 A2 C3 A3]
  · isplitl [HC]; · iexact HC
    isplitl [C2 A2]; · isplitl [C2] <;> iassumption
    isplitl [C3] <;> iassumption
  iintro %q ⟨%hq, HC, ⟨A2, P2⟩, ⟨A3, P3⟩⟩
  subst hq
  icases HpM with ⟨%fp, HpM⟩
  iapply (wp_step (wp_score m c 7 _ [])) $$ [Hk7 HpM]
  · isplitl [Hk7]; · iexact Hk7
    unfold pHas; iexists fp
    isplitr; · ipureintro; intro i hi; exact absurd hi (List.not_mem_nil)
    iexact HpM
  iintro %l ⟨%hl, Hk7, HpM⟩
  subst hl
  ihave HR := (bigL_pair _ _ offs) $$ [Ck Ark]
  · isplitl [Ck] <;> iassumption
  ihave HR' := (Entails.of_eq (bigL_arr (fun o => iprop(crd c (rcv 0 o) ∗ at0 c (rcv 0 o)))).symm) $$ HR
  iapply (wp_step (wp_scores m K c arr _ [7])) $$ [HC HR' HpM]
  · isplitl [HC]; · iexact HC
    isplitl [HR'] <;> iassumption
  iintro %l ⟨%hl, HC, HR, HpM⟩
  subst hl
  ihave HR' := (Entails.of_eq (bigL_arr (fun o => iprop(at1 c (rcv 0 o) ∗ payO m c (rcv 0 o))))) $$ HR
  ihave HR := (bigL_sep (fun o => at1 c (rcv 0 o)) (fun o => payO m c (rcv 0 o)) offs).1 $$ HR'
  icases HR with ⟨Ark, HkG⟩
  ihave HpM' := (pHas_all m c (by decide)) $$ HpM
  ihave HV := (bigL_pair _ _ offs) $$ [Cv Arv]
  · isplitl [Cv] <;> iassumption
  iapply (wp_unit (show _ ⊢ WP c (phOut (arr.foldl (fun l o => lnext m c l (os o)) (lnext m c ![k0_pay13, k0_pay14, k0_pay15, k0_pay16] 7))) _ from wp_phOut m K c))
    $$ [HC HV C4 A4 Hv7 HpM' HoM]
  · isplitl [HC]; · iexact HC
    isplitl [HV]; · iexact HV
    isplitl [C4 A4]; · isplitl [C4] <;> iassumption
    isplitl [Hv7]; · iexact Hv7
    isplitl [HpM'] <;> iassumption
  iintro ⟨HC, Arv, ⟨A4, P4⟩, HvG, HpM, HoM⟩
  ihave HSk := (bigL_pair _ _ offs) $$ [Csk Ask]
  · isplitl [Csk] <;> iassumption
  ihave HSv := (bigL_pair _ _ offs) $$ [Csv Asv]
  · isplitl [Csv] <;> iassumption
  ihave HS := (bigL_pair _ _ offs) $$ [HSk HSv]
  · isplitl [HSk] <;> iassumption
  iapply (wp_uend (wp_phEnd m K c)) $$ [HC HoM Ho T5 A5 HS Hs7 Ht7]
  · isplitl [HC]; · iexact HC
    isplitl [HoM]; · iexact HoM
    isplitl [Ho]; · iexact Ho
    isplitl [T5 A5]; · isplitl [T5] <;> iassumption
    isplitl [HS]; · iexact HS
    isplitl [Hs7] <;> iassumption
  iintro ⟨HC, ⟨A5, P5⟩, HA, HkS, HvS⟩
  ihave HA' := (bigL_sep (fun o => at1 c (snd 0 o)) (fun o => at1 c (snd 1 o)) offs).1 $$ HA
  icases HA' with ⟨Ask, Asv⟩
  unfold final argsIn scr payO cpPay
  rw [oi_split (at1 c)]
  icases P0 with ⟨P0, Q0⟩
  icases P1 with ⟨P1, Q1⟩
  icases P2 with ⟨P2, Q2⟩
  icases P3 with ⟨P3, Q3⟩
  icases P4 with ⟨P4, Q4⟩
  icases P5 with ⟨P5, Q5⟩
  isplitl [HC]; · iexact HC
  isplitl [Q0 Q1 Q2 Q3 Q4 P5]
  · isplitr [P5]
    · isplitl [Q0]; · iexact Q0
      isplitl [Q1]; · iexact Q1
      isplitl [Q2]; · iexact Q2
      isplitl [Q3] <;> iassumption
    iexact P5
  isplitl [P2 P3 P4 P0 P1 Q5 HkS HvS Hk7 HkG HvG HpM]
  · isplitl [P2]; · iexists _; iexact P2
    isplitl [P3]; · iexists _; iexact P3
    isplitl [P4]; · iexists _; iexact P4
    isplitl [P0]; · iexists _; iexact P0
    isplitl [P1]; · iexists _; iexact P1
    isplitl [Q5]; · iexists _; iexact Q5
    isplitl [HkS]; · iexists _; iexact HkS
    isplitl [HvS]; · iexists _; iexact HvS
    isplitl [Hk7 HkG]
    · iexists (gatK m c)
      iapply (Entails.of_eq (kSlots c (gatK m c)).symm)
      unfold slotPay
      isplitl [Hk7] <;> iassumption
    isplitl [HvG]; · iexists _; iexact HvG
    iexists _; iexact HpM
  isplitl [Ab]; · iexact Ab
  isplitl [A0 A1 A2 A3 A4 A5]
  · isplitl [A0]; · iexact A0
    isplitl [A1]; · iexact A1
    isplitl [A2]; · iexact A2
    isplitl [A3]; · iexact A3
    isplitl [A4] <;> iassumption
  isplitl [Ask Asv]
  · isplitl [Ask] <;> iassumption
  isplitl [Ark] <;> iassumption

/-! ## The cells close -/

omit m in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every round done, the counters are the device's again, at zero. -/
theorem close_o (k : OI) : iprop(records m K ∗ at1 c k) ⊢ |={Set.univ}=> (semVal (oCell c k) 0 : sProp 𝕄) := by
  unfold at1
  iintro ⟨HR, HA⟩
  ihave HI := (rec_inv m K (c, .inr k)) $$ HR
  iapply (Rounds.cell_close ER (collRd m) (Set.mem_univ (K (c, .inr k))) (fun h => h) (R := 0 + 1) (duties_later m (oCell c k)))
  isplitl [HI]; · iexact HI
  iexact HA
theorem close_bar : iprop(records m K ∗ atPos ER (barCell c) 1 ∅ 0) ⊢ |={Set.univ}=> (semVal (barCell c) 0 : sProp 𝕄) := by
  iintro ⟨HR, HA⟩
  ihave HI := (rec_inv m K (c, .inl ())) $$ HR
  iapply (Rounds.cell_close ER (collRd m) (Set.mem_univ (K (c, .inl ()))) (fun h => h) (R := 0 + 1) (duties_later m (barCell c)))
  isplitl [HI]; · iexact HI
  iexact HA
theorem close_all : iprop(records m K ∗ bigSep Finset.univ (at1 c))
    ⊢ |={Set.univ}=> bigSep Finset.univ fun k : OI => (semVal (oCell c k) 0 : sProp 𝕄) :=
  (bigSep_with fun k _ => close_o m K c k).trans (bigSep_fupd _ _)

/-- The device at the end, its counters closed. -/
def done : sProp 𝕄 :=
  iprop((argsIn m c ∗ pts oH fullShare c (out m c)) ∗ scr c ∗ semVal (barCell c) 0 ∗ bigSep Finset.univ fun k : OI => semVal (oCell c k) 0)

/-- The body, and the closing of its counters. -/
theorem wp_closed :
    iprop(ctx m K c (O₀ c) ∗ start m c ∗ scr c)
      ⊢ WP c (bodyOn c) fun _ => iprop(|={Set.univ}=> (done m c ∗ ∃ W, owes (c : Thread nD τ) 0 W)) := by
  iintro H
  iapply (wp_uend (wp_body m K c)) $$ H
  unfold ctx final done
  iintro ⟨⟨#HR, -, HO⟩, HA, Hs, HB, Hc⟩
  imod (close_bar m K c) $$ [HB] with HB
  · isplitr; · iexact HR
    iexact HB
  imod (close_all m K c) $$ [Hc] with Hc
  · isplitr; · iexact HR
    iexact Hc
  imodintro
  isplitr [HO]
  · isplitl [HA]; · iexact HA
    isplitl [Hs]; · iexact Hs
    isplitl [HB] <;> iassumption
  iexact HO

theorem wp_closes :
    iprop(ctx m K c (O₀ c) ∗ start m c ∗ scr c) ⊢ WP c (bodyOn c) fun _ => iprop(done m c ∗ ∃ W, owes (c : Thread nD τ) 0 W) := by
  iintro H
  iapply (wp_fupd frame _ Set.univ)
  iapply (wp_closed m K c)
  iexact H

/-- The kernel's body as it is called: it first reads which device it is on. -/
theorem wp_whole :
    iprop(ctx m K c (O₀ c) ∗ start m c ∗ scr c) ⊢ WP c bodyCall fun _ => iprop(done m c ∗ ∃ W, owes (c : Thread nD τ) 0 W) := by
  rw [body_eq]
  refine BI.Entails.trans (wp_closes m K c) ?_
  show _ ⊢ wp _ _ _ _ _
  rw [wp_deviceId]

end

end Cert.KernelIdeal.Coll
-- ==== Proof.IdealRun.lean ====
/- The launch: the ghost state minted and dealt around the devices, and the whole run. -/
module

public import Idealize.ShloMosaic.Lib.Pipeline.Launch
public import Idealize.ShloMosaic.Lib.Pipeline.CollectiveSegs
public import proofs.«01_k».proof.Proof.IdealWhole

@[expose] public section

set_option maxRecDepth 16000

noncomputable section

namespace Cert.KernelIdeal.Coll

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

/-! ## The region's data -/

/-- What a device's body starts from. -/
def Φ₀ (c : Dev nD) : sProp 𝕄 := iprop(((∃ K, records m K) ∗ levAts L lv ∗ start m c) ∗ scr c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => done m c
  q _ := fullShare
  owed t := match t with
    | ⟨0, _⟩ => O₀ c
    | ⟨_ + 1, _⟩ => 0

omit [FloatOps F] in
theorem no_windows (R : Fin cfg0.W → sProp 𝕄) : bigSep Finset.univ R = (BI.emp : sProp 𝕄) :=
  bigSep_univ_eq_bigSepL (I := Fin 0) [] (by decide) (by decide) R

/-- The body takes each device from what it starts from to the result. -/
theorem body_obligation (c : Dev nD) : BodyObligation (dats (F := F) m 0 c) (defs₀ (F := F)) 𝒱₀ () Set.univ := fun t => by
  rw [fin_N0 t, no_windows, no_windows]
  show iprop(Φ₀ m c ∗ (dats m 0 c).owesAt () t0_0.castSucc ∗ emp)
    ⊢ WP c bodyCall fun _ => iprop(done m c ∗ (dats m 0 c).owesAt () t0_0.succ ∗ emp)
  unfold Φ₀
  iintro ⟨⟨⟨⟨%K, HR⟩, HL, Hst⟩, Hscr⟩, ⟨%W, -, HO⟩, -⟩
  iapply (wp_uend (wp_whole m K c)) $$ [HR HL Hst Hscr HO]
  · unfold ctx
    isplitl [HR HL HO]
    · isplitl [HR]; · iexact HR
      isplitl [HL]; · iexact HL
      iexists W; iexact HO
    isplitl [Hst] <;> iassumption
  iintro ⟨HD, ⟨%W', HO⟩⟩
  isplitl [HD]; · iexact HD
  isplitl [HO]
  · iexists W'
    isplitr; · ipureintro; exact fun _ _ => Or.inl trivial
    iexact HO
  iempintro

/-! ## The cells and their tokens -/

theorem ownSemFacts : Pipeline.OwnSemFacts cfg0.spec osem := by decide

theorem osem_injective : Function.Injective osem := ownSemFacts.inj

theorem csem_injective : Function.Injective csem := by
  rintro (⟨⟩ | k) (⟨⟩ | k') h
  · rfl
  · cases h
  · cases h
  · exact congrArg Sum.inr (osem_injective h)

theorem kcell_injective : Function.Injective (kcell : Dev nD × CI → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

def collCells : Finset (GSem nD τ sig) := Finset.univ.map ⟨kcell, kcell_injective⟩

/-- The duties of a device's own cells: seven of its barrier, one of each DMA cell. -/
abbrev DI : Type := Fin 7 ⊕ OI
def tokOf (cj : Dev nD × DI) : GSem nD τ sig × ℕ × Fin 7 :=
  match cj.2 with
  | .inl o => (barCell cj.1, 0, o)
  | .inr k => (oCell cj.1 k, 0, 0)

theorem tokOf_injective : Function.Injective tokOf := by
  rintro ⟨c, j⟩ ⟨c', j'⟩ h
  have h1 : c = c' := by
    have := congrArg (fun x : GSem nD τ sig × ℕ × Fin 7 => x.1.1.1) h
    rcases j with j | j <;> rcases j' with j' | j' <;> exact this
  subst h1
  have h2 := congrArg (fun x : GSem nD τ sig × ℕ × Fin 7 => (x.1.2, x.2.2)) h
  rcases j with j | j <;> rcases j' with j' | j'
  · rw [show j = j' from congrArg Prod.snd h2]
  · cases congrArg Prod.fst h2
  · cases congrArg Prod.fst h2
  · rw [osem_injective (show osem j = osem j' from congrArg Prod.fst h2)]

def collToks : Finset (GSem nD τ sig × ℕ × Fin 7) := Finset.univ.map ⟨tokOf, tokOf_injective⟩

/-- The ghost state minted at launch. -/
def u₀ : UU :=
  (initOf (Pipeline.cells cfgs cellOf_inj) (Pipeline.launchToks cfgs cellOf_inj), initOf collCells collToks)

/-- The tokens of the duties of device `c`'s own cells. -/
def toks (c : Dev nD) : sProp 𝕄 :=
  iprop(bigSep Finset.univ (tok c) ∗ bigL (fun o => dutyTok ER (barCell c) 0 o) offs)

/-- What is dealt device `c` first; then, the cells' invariants made and the tokens passed round. -/
def G (c : Dev nD) : sProp 𝕄 :=
  iprop((bigSep Finset.univ fun k : CI => roundState ER (collRd m) (kcell (c, k)) 0)
    ∗ (bigSep Finset.univ fun k : CI => iprop(atPos ER (kcell (c, k)) 0 ∅ 0 ∗ reached ER (kcell (c, k)) 0)) ∗ toks c)
def held (c : Dev nD) : sProp 𝕄 := iprop((bigSep Finset.univ fun k : CI => atPos ER (kcell (c, k)) 0 ∅ 0) ∗ payToks c)
def G' (c : Dev nD) : sProp 𝕄 := iprop((∃ K, records m K) ∗ held c)

theorem fund_coll : BI.own (ER (initOf collCells collToks)) ⊢ (|==> bigSep Finset.univ (G m) : sProp 𝕄) := by
  have hX (R : GSem nD τ sig → sProp 𝕄) : bigSep collCells R = bigSep Finset.univ fun c : Dev nD => bigSep Finset.univ fun k : CI => R (kcell (c, k)) := by
    unfold collCells; rw [bigSep_map, bigSep_univ_prod]; rfl
  have hT : bigSep collToks (fun x => (dutyTok ER x.1 x.2.1 x.2.2 : sProp 𝕄)) = bigSep Finset.univ fun c : Dev nD => toks c := by
    unfold collToks; rw [bigSep_map, bigSep_univ_prod]
    refine bigSep_congr fun c _ => ?_
    unfold toks
    rw [bigSep_univ_sum, ← bigL_offs]
    exact BI.Entails.antisymm BI.sep_comm BI.sep_comm
  iintro HX
  imod (Rounds.fund ER (collRd m) collCells collToks) $$ HX with ⟨Hst, Hr, Hat, Htok⟩
  imodintro
  ihave Hst' := (Entails.of_eq (hX fun g => roundState ER (collRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters -/

/-- The DMA semaphores are the kernel's own; the barrier is the one semaphore beside them. -/
theorem ownSems0_eq (c : Dev nD) : (Pipeline.ownSems0 (Ix := Unit) (Name := ℕ) (U := UU) (Lvl := ℕ) (Val := Elt F) (τ := τ) osem c : sProp 𝕄)
    = bigSep Finset.univ fun k : OI => semVal (oCell c k) 0 := rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Of what is stated of every cell of a device: the barrier's, and the others'. -/
theorem ci_split (R : CI → sProp 𝕄) : bigSep Finset.univ R = iprop(R (.inl ()) ∗ bigSep Finset.univ fun k : OI => R (.inr k)) := by
  rw [bigSep_univ_sum, bigSep_univ_eq_bigSepL [()] (by decide) (by decide)]; rfl

/-- One device's cells put under their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (collRd m) κ (kcell (c, k))))
          ∗ (bigSep Finset.univ fun k : CI => iprop(atPos ER (kcell (c, k)) 0 ∅ 0 ∗ reached ER (kcell (c, k)) 0)) ∗ toks c) := by
  rw [ownSems0_eq, unscopedSems0_eq]
  unfold G
  iintro ⟨Ho, Hu, Hst, Hat, Htok⟩
  ihave Hv := (Entails.of_eq (ci_split (fun k : CI => (semVal (kcell (c, k)) 0 : sProp 𝕄))).symm) $$ [Ho Hu]
  · isplitl [Hu]; · iexact Hu
    iexact Ho
  imod (show iprop((bigSep Finset.univ fun k : CI => semVal (kcell (c, k)) 0) ∗ bigSep Finset.univ fun k : CI => roundState ER (collRd m) (kcell (c, k)) 0)
      ⊢ (|={Set.univ}=> bigSep Finset.univ fun k : CI => iprop(∃ κ : ℕ, cellInv ER (collRd m) κ (kcell (c, k))) : sProp 𝕄) from by
        rw [← bigSep_sep']
        exact (bigSep_mono fun k _ => (Rounds.body_intro ER (collRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens passed round -/

/-- What every device has for each offset, handed to the device whose offset it is. -/
theorem around (R : Dev nD → Fin 7 → sProp 𝕄) :
    (bigSep Finset.univ fun c => bigL (R c) offs) = bigSep Finset.univ fun c => bigL (fun o => R (peer c o) o) offs := by
  simp only [← bigL_offs]
  rw [Pipeline.bigSep_univ_comm, Pipeline.bigSep_univ_comm (fun c o => R (peer c o) o)]
  exact bigSep_congr fun o _ => bigSep_univ_equiv (peerEquiv o) fun c => R c o

theorem bigL_sepE {ι : Type} (R S : ι → sProp 𝕄) (l : List ι) : bigL (fun i => iprop(R i ∗ S i)) l = iprop(bigL R l ∗ bigL S l) :=
  BI.Entails.antisymm (bigL_sep R S l).1 (bigL_sep R S l).2

theorem toks_around : (bigSep Finset.univ fun c : Dev nD => (toks c : sProp 𝕄)) ⊢ bigSep Finset.univ fun c : Dev nD => payToks c := by
  unfold toks payToks sendToks
  simp only [bigL_sepE, oi_split, bigSep_sep']
  rw [around (fun c o => tok c (rcv 0 o)), around (fun c o => tok c (rcv 1 o)), around (fun c o => dutyTok ER (barCell c) 0 o)]
  iintro ⟨⟨H6, ⟨Hs0, Hs1⟩, Hr0, Hr1⟩, Hb⟩
  isplitl [H6]; · iexact H6
  isplitl [Hs0 Hs1 Hr0 Hr1]
  · isplitl [Hs0 Hr0]
    · isplitl [Hs0] <;> iassumption
    · isplitl [Hs1] <;> iassumption
  iexact Hb

theorem regroup :
    (bigSep Finset.univ fun c : Dev nD => iprop((bigSep Finset.univ fun k : CI => iprop(∃ κ : ℕ, cellInv ER (collRd m) κ (kcell (c, k))))
          ∗ (bigSep Finset.univ fun k : CI => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CI => iprop(∃ κ : ℕ, cellInv ER (collRd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (collRd m) κ (kcell ck) : sProp 𝕄))) $$ HI
  icases HK with ⟨%K, #HI⟩
  ihave Htk := (toks_around (F := F)) $$ Htok
  iapply (bigSep_with (R := records m K) (Φ := held) fun c _ => show iprop(records m K ∗ held c) ⊢ G' m c from by
    unfold G'
    iintro ⟨HR, HH⟩
    isplitl [HR]; · iexists K; iexact HR
    iexact HH)
  isplitr
  · unfold records; isplitl; · iexact HI
    iexact HR
  · unfold held
    rw [bigSep_sep']
    isplitl [Hat]; · iexact Hat
    iexact Htk

/-- All devices' cells at once: under their invariants, known to all, the tokens with those who pay. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What all devices owe along a list of offsets reaches each device as its credits. -/
theorem cred_list (sm : Fin 7 → SemLoc sig) (n : Fin 7 → ℕ) (c : Dev nD) : ∀ l : List (Fin 7),
    (Pipeline.launchCred (fun d => owl (fun o => tallyAt ((peer d o : Thread nD τ), sm o) () (n o)) l) c : sProp 𝕄)
      ⊢ bigL (fun o => cred (tallyAt ((c : Thread nD τ), sm o) () (n o))) l
  | [] => by
    unfold owl bigL
    exact Entails.of_eq (Pipeline.launchCred_zero c)
  | o :: l => by
    unfold owl bigL
    rw [Pipeline.launchCred_add]
    iintro ⟨H1, H2⟩
    isplitl [H2]
    · iapply (Pipeline.launchCred_tallyAt (sm o) (fun d => peer d o) (fun c => srcOf c (os o)) (fun c => peer_srcOf c o) (fun d => srcOf_peer d o) () (n o) c)
      iexact H2
    · iapply (cred_list sm n c l)
      iexact H1

/-- Units on the barrier add up. -/
theorem cred_bar (c : Dev nD) : ∀ l : List (Fin 7),
    bigL (fun _ => (cred (tallyAt (barCell c) () 1) : sProp 𝕄)) l ⊢ cred (tallyAt (barCell c) () l.length)
  | [] => by
    unfold bigL
    exact Entails.of_eq (by rw [List.length_nil, tallyAt_zero, cred_zero]; rfl)
  | o :: l => by
    unfold bigL
    rw [List.length_cons, ← tallyAt_add]
    iintro ⟨H1, H2⟩
    iapply (cred_add _ _).2
    isplitl [H2]
    · iapply (cred_bar c l); iexact H2
    · iexact H1

theorem creds (c : Dev nD) : (Pipeline.launchCred O₀ c : sProp 𝕄)
    ⊢ iprop(cred (tallyAt (barCell c) () 7) ∗ bigL (fun o => crd c (rcv 0 o)) offs ∗ bigL (fun o => crd c (rcv 1 o)) offs) := by
  rw [show (O₀ : Dev nD → CellTallies nD τ sig Unit) = fun d => (owR d 1 offs + owR d 0 offs) + owB d offs from rfl,
    Pipeline.launchCred_add, Pipeline.launchCred_add]
  iintro ⟨⟨H1, H0⟩, HB⟩
  isplitl [HB]
  · iapply (cred_bar c offs)
    iapply (cred_list (fun _ => .reg barS) (fun _ => 1) c offs)
    iexact HB
  isplitl [H0]
  · iapply (cred_list (fun o => osem (rcv 0 o)) (fun o => amt (rcv 0 o)) c offs)
    iexact H0
  · iapply (cred_list (fun o => osem (rcv 1 o)) (fun o => amt (rcv 1 o)) c offs)
    iexact H1

/-! ## The launch's side conditions -/

omit [FloatOps F] in
/-- A whole buffer held, by its view and by its name. -/
theorem pts_whole (b : Ref sig .tc) (c : Dev nD)
    (f : Buf (Elt F) ((c : Thread nD τ).loc b)) :
    (((View.whole b).loc (c : Thread nD τ) ↦[(View.whole b).set]{fullShare} f : sProp 𝕄)) = (((c : Thread nD τ).loc b) ↦{fullShare} f) := by
  rw [View.set_whole]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(((∃ K, records m K) ∗ levAts L lv ∗ start m c) ∗ emp) := by
  rw [Pipeline.unscopedRestP_none, unscopedRest0_eq]
  unfold G' held
  rw [ci_split]
  iintro ⟨⟨Hx, Hwq, Hk, Hv, Hwo, Ho⟩, HL, Hcr, -, HR, ⟨Hb, Hat⟩, Htok⟩
  ihave Hc := (creds (F := F) c) $$ Hcr
  imodintro
  isplitl
  · isplitl [HR]; · iexact HR
    isplitl [HL]; · iexact HL
    unfold start argsIn
    isplitl [Hx Hwq Hk Hv Hwo Ho]
    · isplitr [Ho]
      · isplitl [Hk]; · iapply (Entails.of_eq (pts_whole main_arg2 c _).symm); iexact Hk
        isplitl [Hv]; · iapply (Entails.of_eq (pts_whole main_arg3 c _).symm); iexact Hv
        isplitl [Hx]; · iapply (Entails.of_eq (pts_whole main_arg0 c _).symm); iexact Hx
        isplitl [Hwq]; · iapply (Entails.of_eq (pts_whole main_arg1 c _).symm); iexact Hwq
        iapply (Entails.of_eq (pts_whole main_arg4 c _).symm); iexact Hwo
      · iexists (m ((c : Thread nD τ).loc main_v1))
        iapply (Entails.of_eq (pts_whole main_v1 c _).symm); iexact Ho
    isplitl [Hc]; · iexact Hc
    isplitr [Htok]
    · isplitl [Hb]; · iexact Hb
      iexact Hat
    iexact Htok
  · iempintro

/-- The scratch buffers as the launch names them. -/
theorem scr_eq (c : Dev nD) : (Pipeline.scopedRest (Ix := Unit) (Name := ℕ) (U := UU) (Lvl := ℕ) (Val := Elt F) cfg0.spec c : sProp 𝕄) = scr c := by
  rw [scopedRest0_eq]
  have h (b : Ref sig .tc) : (iprop(∃ f : Buf (Elt F) ((c : Thread nD τ).loc b), ((c : Thread nD τ).loc b) ↦{fullShare} f) : sProp 𝕄)
      = iprop(∃ f : Buf (Elt F) ((c : Thread nD τ).loc b), (View.whole b).loc (c : Thread nD τ) ↦[(View.whole b).set]{fullShare} f) := by
    rw [View.set_whole]
  rw [h cc0_scratch0, h cc0_scratch1, h cc0_scratch2, h cc0_scratch3, h cc0_scratch4, h cc0_scratch5, h cc0_scratch6, h cc0_scratch7,
    h cc0_scratch8, h cc0_scratch9, h cc0_scratch10]
  rfl

theorem phi0_intro (c : Dev nD) :
    iprop(((∃ K, records m K) ∗ levAts L lv ∗ start m c) ∗ Pipeline.prefHeld Pipeline.Prefetch.none c (fun _ => fullShare.right) (fun k => k.elim0)
        ∗ Pipeline.scopedRest cfg0.spec c)
      ⊢ (dats m 0 c).Φ 0 := by
  rw [show (dats m 0 c).Φ 0 = Φ₀ m c from rfl, scr_eq]
  unfold Φ₀
  iintro ⟨Hs, -, Hr⟩
  isplitl [Hs] <;> iassumption

theorem phi1_exit (c : Dev nD) :
    (dats m 0 c).Φ (Fin.last cfg0.N) ⊢ iprop((argsIn m c ∗ pts oH fullShare c (out m c) ∗ unscopedSems0 c)
      ∗ Pipeline.ownSems0 osem c ∗ Pipeline.scopedRest cfg0.spec c) := by
  rw [show (dats m 0 c).Φ (Fin.last cfg0.N) = done m c from rfl, scr_eq, ownSems0_eq, unscopedSems0_eq]
  unfold done
  iintro ⟨⟨Ha, Ho⟩, Hs, HB, HO⟩
  isplitl [Ha Ho HB]
  · isplitl [Ha]; · iexact Ha
    isplitl [Ho] <;> iassumption
  isplitl [HO] <;> iassumption

theorem waits (c : Dev nD) : (levAts L lv : sProp 𝕄) ⊢ Pipeline.cellsWaits cfgs (dats m) () 0 c :=
  Pipeline.cellsWaits_intro cfgs (dats m) () 0 c fun w s t => w.elim0

/-- What a state's memory holds on device `c` at the end. -/
def Holds (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_v1) = out m c

/-- A whole buffer held is what the memory has. -/
theorem read_whole (b : Ref sig .tc) (c : Dev nD) (f : Buf (Elt F) ((c : Thread nD τ).loc b)) (s' : Phys nD τ sig (Elt F)) :
    iprop(SI s' ∗ ((View.whole b).loc (c : Thread nD τ) ↦[(View.whole b).set]{fullShare} f))
      ⊢ (⌜s'.mem.mem ((c : Thread nD τ).loc b) = f⌝ : sProp 𝕄) := by
  refine BI.Entails.trans SI_pointsTo_agree (BI.pure_mono fun h => funext fun i => h i ?_)
  rw [View.set_whole]; exact Finset.mem_univ i

theorem read_end (c : Dev nD) (s' : Phys nD τ sig (Elt F)) :
    iprop((argsIn m c ∗ pts oH fullShare c (out m c) ∗ unscopedSems0 c) ∗ emp ∗ SI s')
      ⊢ |={Set.univ}=> iprop(⌜Holds m c s'.mem ∧ ∀ sm : SemLoc sig, sm.isScoped .tc = false → s'.mem.sem ((c.tc : Thread nD τ), sm) = 0⌝ ∗ SI s' : sProp 𝕄) := by
  unfold argsIn
  iintro ⟨⟨⟨Hk, Hv, Hx, Hwq, Hwo⟩, Ho, Hu⟩, -, HSI⟩
  ihave %h2 := (read_whole main_arg2 c (kIn m c) s') $$ [HSI Hk]
  · isplitl [HSI] <;> iassumption
  ihave %h3 := (read_whole main_arg3 c (vIn m c) s') $$ [HSI Hv]
  · isplitl [HSI] <;> iassumption
  ihave %h0 := (read_whole main_arg0 c (xIn m c) s') $$ [HSI Hx]
  · isplitl [HSI] <;> iassumption
  ihave %h1 := (read_whole main_arg1 c (wqIn m c) s') $$ [HSI Hwq]
  · isplitl [HSI] <;> iassumption
  ihave %h4 := (read_whole main_arg4 c (woIn m c) s') $$ [HSI Hwo]
  · isplitl [HSI] <;> iassumption
  ihave %h5 := (read_whole main_v1 c (out m c) s') $$ [HSI Ho]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro; exact ⟨⟨h0, h1, h2, h3, h4, h5⟩, hs⟩
  iexact HSI

/-! ## The run -/

/-- Eight devices, any memory, all counters zero: the program ends, every device has its arguments as they were and
    the computed result, and every counter is zero. -/
theorem run_main : θ_run defs (onTc (τ := τ) (main (F := F))) ⟨m, fun _ => 0, ρ⟩
    (fun r => (∀ c, Holds m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_coll m) $$ HX with HG
      imodintro
      isplitl [HP] <;> iassumption)
    (hglob := glob m)
    (hA := fun _ w => w.elim0) (hpf := fun _ k => k.elim0)
    (X := fun c => iprop((∃ K, records m K) ∗ levAts L lv ∗ start m c))
    (Y := fun c => iprop(argsIn m c ∗ pts oH fullShare c (out m c) ∗ unscopedSems0 c)) (Z := fun _ => iprop(emp))
    (hX := start_intro m ρ) (hin := phi0_intro m) (hout := phi1_exit m)
    (QY := fun c s => Holds m c s ∧ ∀ sm : SemLoc sig, sm.isScoped .tc = false → s.sem ((c.tc : Thread nD τ), sm) = 0)
    (hY := read_end m)
    (hQ := fun _ h hs => ⟨fun c => (h c).2.2.1, sem_eq_zero hs fun c => (h c).2.2.2⟩)

end Cert.KernelIdeal.Coll
-- ==== Proof.Scalars.lean ====
/- The arithmetic of extended reals behind the equation: the constants, the quantiser, and a weighted mean whose
   weights are shifted by their largest. -/
module

public import Idealize.ShloMosaic.Lib.IdealHost
public import Idealize.ShloMosaic.PureOps.Ideal

@[expose] public section

noncomputable section

namespace Cert.Scalars

open Idealize.ShloMosaic

/-! ## The constants -/

theorem c_16 : Ideal.ofBits .f32 0x41800000#32 = ((16 : ℝ) : EReal) := by
  simp [Ideal.ofBits, Ideal.ieee, -EReal.coe_mul]; norm_num
theorem c_1_16 : Ideal.ofBits .f32 0x3D800000#32 = ((1 / 16 : ℝ) : EReal) := by
  simp [Ideal.ofBits, Ideal.ieee, -EReal.coe_mul]; norm_num
theorem c_1_8 : Ideal.ofBits .f32 0x3E000000#32 = ((1 / 8 : ℝ) : EReal) := by
  simp [Ideal.ofBits, Ideal.ieee, -EReal.coe_mul]; norm_num
theorem c_1_128 : Ideal.ofBits .f32 0x3C000000#32 = ((1 / 128 : ℝ) : EReal) := by
  simp [Ideal.ofBits, Ideal.ieee, -EReal.coe_mul]; norm_num
theorem c_negInf : Ideal.ofBits .f32 0xFF800000#32 = ⊥ := by
  simp [Ideal.ofBits, Ideal.ieee]
theorem c_inf : Ideal.ofBits .f32 0x7F800000#32 = ⊤ := by
  simp [Ideal.ofBits, Ideal.ieee]

/-! ## The quantiser -/

/-- The clipped sixteenfold. -/
def clip (a : EReal) : EReal :=
  min ((((127#32).toInt : ℤ) : ℝ) : EReal) (max ((((4294967169#32).toInt : ℤ) : ℝ) : EReal) (a * Ideal.ofBits .f32 0x41800000#32))

/-- The level an entry is rounded to. -/
def level (a : EReal) : ℤ := Ideal.roundHalfEven (clip a).toReal

theorem clip_real (a : EReal) : ∃ r : ℝ, clip a = r ∧ -127 ≤ r ∧ r ≤ 127 := by
  have h1 : (((127#32).toInt : ℤ) : ℝ) = 127 := by rw [show (127#32).toInt = 127 by decide]; norm_num
  have h2 : (((4294967169#32).toInt : ℤ) : ℝ) = -127 := by rw [show (4294967169#32).toInt = -127 by decide]; norm_num
  have hu : clip a ≤ ((127 : ℝ) : EReal) := by unfold clip; rw [h1]; exact min_le_left _ _
  have hl : ((-127 : ℝ) : EReal) ≤ clip a := by
    unfold clip; rw [h1, h2]
    exact le_min (EReal.coe_le_coe_iff.mpr (by norm_num)) (le_max_left _ _)
  generalize clip a = y at hu hl ⊢
  induction y with
  | bot => exact absurd hl (by simp)
  | top => exact absurd hu (by simp)
  | coe r => exact ⟨r, rfl, EReal.coe_le_coe_iff.mp hl, EReal.coe_le_coe_iff.mp hu⟩

theorem round_bounds (r : ℝ) (hl : -127 ≤ r) (hu : r ≤ 127) : -127 ≤ Ideal.roundHalfEven r ∧ Ideal.roundHalfEven r ≤ 127 := by
  have h1 : (-127 : ℤ) ≤ ⌊r⌋ := Int.le_floor.mpr (by exact_mod_cast hl)
  have h2 : ⌊r⌋ ≤ 127 := by
    have := Int.floor_le r
    exact_mod_cast (this.trans hu)
  have h3 : 1 / 2 ≤ r - ⌊r⌋ → ⌊r⌋ < 127 := fun h => by
    by_contra hc
    have hf : ⌊r⌋ = 127 := by omega
    rw [hf] at h
    push_cast at h
    linarith
  unfold Ideal.roundHalfEven
  simp only
  split_ifs with ha hb hc
  · omega
  · have := h3 hb.le; omega
  · omega
  · have := h3 (not_lt.mp ha); omega

theorem level_bounds (a : EReal) : -127 ≤ level a ∧ level a ≤ 127 := by
  obtain ⟨r, h, hl, hu⟩ := clip_real a
  unfold level
  rw [h, EReal.toReal_coe]
  exact round_bounds r hl hu

/-- What the reference rounds to is the level. -/
theorem round_clip (a : EReal) : Ideal.liftRound Ideal.roundHalfEven (clip a) = (((level a : ℤ) : ℝ) : EReal) := by
  obtain ⟨r, h, hl, hu⟩ := clip_real a
  unfold level
  rw [h, EReal.toReal_coe, Ideal.liftRound_coe]

/-- An int8 holds a level. -/
theorem int8_level (z : ℤ) (hl : -127 ≤ z) (hu : z ≤ 127) : (Ideal.fptosi 8 ((z : ℝ) : EReal)).toInt = z := by
  unfold Ideal.fptosi
  rw [Ideal.toIntClamped_coe]
  have h : (if (0 : ℝ) ≤ (z : ℝ) then ⌊(z : ℝ)⌋ else ⌈(z : ℝ)⌉) = z := by split <;> simp
  rw [h, BitVec.toInt_ofInt]
  norm_num
  rw [Int.bmod_eq_of_le] <;> omega

/-! ## Sums -/

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A positive real factor goes through a sum of any extended reals. -/
theorem sum_mul_pos {ι : Type} (s : Finset ι) (f : ι → EReal) (c : ℝ) (hc : 0 < c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc.le) (EReal.coe_ne_top c) _ _

/-- The largest of some reals, at least one, is a real. -/
theorem fold_max_real {n : ℕ} (hn : 0 < n) (s : Fin n → ℝ) : ∃ M : ℝ, (Finset.univ.fold max (⊥ : EReal) fun t => ((s t : ℝ) : EReal)) = M := by
  have hne : (Finset.univ : Finset (Fin n)).Nonempty := ⟨⟨0, hn⟩, Finset.mem_univ _⟩
  obtain ⟨t, _, ht⟩ := Finset.exists_max_image Finset.univ s hne
  refine ⟨s t, le_antisymm ?_ ?_⟩
  · rw [Finset.fold_max_le]
    exact ⟨bot_le, fun i hi => EReal.coe_le_coe_iff.mpr (ht i hi)⟩
  · rw [Finset.le_fold_max]
    exact .inr ⟨t, Finset.mem_univ _, le_rfl⟩

/-- A mean weighted by exponentials does not change when the exponents are shifted by their largest. -/
theorem mean_shift {n : ℕ} (hn : 0 < n) (s : Fin n → ℝ) (v : Fin n → EReal) :
    Ideal.div (∑ t, v t * Ideal.exp (((s t : ℝ) : EReal) - Finset.univ.fold max ⊥ fun t => ((s t : ℝ) : EReal)))
        (∑ t, Ideal.exp (((s t : ℝ) : EReal) - Finset.univ.fold max ⊥ fun t => ((s t : ℝ) : EReal)))
      = Ideal.div (∑ t, Ideal.exp ((s t : ℝ) : EReal) * v t) (∑ t, Ideal.exp ((s t : ℝ) : EReal)) := by
  obtain ⟨M, hM⟩ := fold_max_real hn s
  rw [hM]
  have hc : 0 < Real.exp (-M) := Real.exp_pos _
  have he : ∀ t, Ideal.exp (((s t : ℝ) : EReal) - (M : EReal)) = ((Real.exp (s t) : ℝ) : EReal) * ((Real.exp (-M) : ℝ) : EReal) := fun t => by
    rw [← EReal.coe_sub, Ideal.exp_coe, ← EReal.coe_mul, ← Real.exp_add, sub_eq_add_neg]
  have hL : 0 < ∑ t, Real.exp (s t) := Finset.sum_pos (fun t _ => Real.exp_pos _) ⟨⟨0, hn⟩, Finset.mem_univ _⟩
  simp only [he, Ideal.exp_coe]
  have h1 : ∑ t, v t * (((Real.exp (s t) : ℝ) : EReal) * ((Real.exp (-M) : ℝ) : EReal)) = (∑ t, ((Real.exp (s t) : ℝ) : EReal) * v t) * ((Real.exp (-M) : ℝ) : EReal) := by
    rw [sum_mul_pos _ _ _ hc]
    exact Finset.sum_congr rfl fun t _ => by rw [← mul_assoc, mul_comm (v t)]
  rw [h1, ← sum_mul_pos _ _ _ hc, sum_coe, ← EReal.coe_mul, Ideal.div_coe hL.ne', Ideal.div_coe (mul_pos hL hc).ne', mul_assoc, ← EReal.coe_mul]
  congr 2
  field_simp

/-- The positions of 1024 keys, taken as eight blocks of 128. -/
theorem sum_blocks {M : Type} [AddCommMonoid M] (f : Fin 8 → Fin 128 → M) :
    ∑ t : Fin 1024, f ⟨t.val / 128, by omega⟩ ⟨t.val % 128, by omega⟩ = ∑ s : Fin 8, ∑ r : Fin 128, f s r := by
  rw [← Fintype.sum_prod_type']
  exact Fintype.sum_equiv (finProdFinEquiv (m := 8) (n := 128)).symm _ _ fun t => rfl

/-- The same, of a function of the position. -/
theorem sum_positions {M : Type} [AddCommMonoid M] (f : Fin 1024 → M) :
    ∑ t, f t = ∑ s : Fin 8, ∑ r : Fin 128, f ⟨128 * s.val + r.val, by omega⟩ := by
  rw [← sum_blocks fun s r => f ⟨128 * s.val + r.val, by omega⟩]
  exact Finset.sum_congr rfl fun t _ => congrArg f (Fin.ext (by simp only; omega))

/-- A query's score against a key, on both sides: the key's entries are levels over sixteen, and the score is an eighth. -/
theorem score_eq {n : ℕ} (q : Fin n → ℝ) (z : Fin n → ℤ) :
    (∑ d, ((q d : ℝ) : EReal) * ((((z d : ℤ) : ℝ) : EReal) * ((1 / 16 : ℝ) : EReal))) * ((1 / 8 : ℝ) : EReal)
      = (((∑ d, q d * (z d : ℝ)) * (1 / 128) : ℝ) : EReal)
    ∧ (∑ d, ((q d : ℝ) : EReal) * (((z d : ℤ) : ℝ) : EReal)) * ((1 / 128 : ℝ) : EReal)
      = (((∑ d, q d * (z d : ℝ)) * (1 / 128) : ℝ) : EReal) := by
  simp only [← EReal.coe_mul, sum_coe]
  refine ⟨congrArg _ ?_, trivial⟩
  rw [Finset.sum_mul, Finset.sum_mul]
  exact Finset.sum_congr rfl fun d _ => by ring

/-- A product of real matrices' entries is real. -/
theorem sum_real {ι : Type} [Fintype ι] (f g : ι → EReal) (hf : ∀ i, ∃ r : ℝ, f i = r) (hg : ∀ i, ∃ r : ℝ, g i = r) : ∃ r : ℝ, ∑ i, f i * g i = r := by
  choose a ha using hf
  choose b hb using hg
  exact ⟨∑ i, a i * b i, by simp only [ha, hb, ← EReal.coe_mul, sum_coe]⟩

/-- An extended real whose absolute value is below infinity is a real. -/
theorem real_of_abs_lt (a : EReal) (h : max a (-a) < ⊤) : ∃ r : ℝ, a = r := by
  induction a with
  | bot => simp at h
  | top => simp at h
  | coe r => exact ⟨r, rfl⟩

end Cert.Scalars

end
-- ==== Proof.IdealPay.lean ====
/- The kernel's payloads, read at an index over the extended reals. -/
module

public import proofs.«01_k».proof.Proof.Gen.KernelIdeal.Skeleton
public import Idealize.ShloMosaic.Lib.Pointwise
public import proofs.«01_k».proof.Proof.Scalars

@[expose] public section

noncomputable section

namespace Cert.KernelIdeal.Coll

open Cert.KernelIdeal Cert.KernelIdeal.Gen
open Idealize.ShloMosaic

/-- The staged V is V. -/
theorem pay3_apply (v : Vec Ideal S2x128x2x64 .f32) (b : Fin 2) (r : Fin 128) (e : Fin 128) :
    k0_pay3 (F := Ideal) (k0_pay2 v) (ix3 b r e) = v (ix4 b r ⟨e.val / 64, by omega⟩ ⟨e.val % 64, by omega⟩) := by
  pointwise [k0_pay3, k0_pay2]

/-- The staged K's entry is the int8 conversion of the rounded, clipped sixteenfold. -/
theorem pay1_apply (k : Vec Ideal S2x128x2x64 .f32) (b : Fin 2) (r : Fin 128) (e : Fin 128) :
    k0_pay1 (F := Ideal) k (ix3 b r e) = Ideal.fptosi 8 (Ideal.liftRound Ideal.roundHalfEven
      (Scalars.clip (k (ix4 b r ⟨e.val / 64, by omega⟩ ⟨e.val % 64, by omega⟩)))) := by
  pointwise [k0_pay1, Scalars.clip]
  rfl

/-- Read back as a float it is the level. -/
theorem pay1_level (k : Vec Ideal S2x128x2x64 .f32) (b : Fin 2) (r : Fin 128) (e : Fin 128) :
    FloatOps.sitofp (F := Ideal) .bf16 (k0_pay1 (F := Ideal) k (ix3 b r e))
      = (((Scalars.level (k (ix4 b r ⟨e.val / 64, by omega⟩ ⟨e.val % 64, by omega⟩)) : ℤ) : ℝ) : EReal) := by
  rw [pay1_apply, Scalars.round_clip]
  exact congrArg (fun z : ℤ => ((z : ℝ) : EReal)) (Scalars.int8_level _ (Scalars.level_bounds _).1 (Scalars.level_bounds _).2)

/-- The projection of the stacked rows. -/
theorem pay6_apply (x : Vec Ideal S2x128x512 .f32) (wq : Vec Ideal S512x512 .f32) (r : Fin 256) (n : Fin 512) :
    k0_pay6 (F := Ideal) x wq (ix2 r n) = ∑ e : Fin 512, x (ix3 ⟨r.val / 128, by omega⟩ ⟨r.val % 128, by omega⟩ e) * wq (ix2 e n) := by
  pointwise [k0_pay6, dot_S256x512_S512x512_S256x512_1_0_0_1_n_n]

/-- Two entries at the same coordinates. -/
theorem at_ix2 {α : Type} {a b : ℕ} (f : (⟨2, ![a, b]⟩ : Shape).Idx → α) {i i' : Fin a} {j j' : Fin b} (h : i.val = i'.val) (h' : j.val = j'.val) :
    f (ix2 i j) = f (ix2 i' j') := by
  rw [Fin.ext h, Fin.ext h']

theorem pay8_apply (x : Vec Ideal S2x128x512 .f32) (wq : Vec Ideal S512x512 .f32) (g : Fin 4) (i : Fin 128) (d : Fin 64) :
    k0_pay8 (F := Ideal) x wq (ix2 ⟨g.val * 128 + i.val, by omega⟩ d) = k0_pay6 (F := Ideal) x wq (ix2 ⟨i.val, by omega⟩ ⟨g.val * 64 + d.val, by omega⟩) := by
  have := i.isLt
  have := d.isLt
  fin_cases g <;> pointwise (disch := omega) [k0_pay8, k0_pay7, dif_pos, dif_neg]
  all_goals exact at_ix2 _ (by simp only; omega) (by simp only; try omega)

theorem pay9_apply (x : Vec Ideal S2x128x512 .f32) (wq : Vec Ideal S512x512 .f32) (g : Fin 4) (i : Fin 128) (d : Fin 64) :
    k0_pay9 (F := Ideal) x wq (ix2 ⟨g.val * 128 + i.val, by omega⟩ d) = k0_pay6 (F := Ideal) x wq (ix2 ⟨i.val, by omega⟩ ⟨(4 + g.val) * 64 + d.val, by omega⟩) := by
  have := i.isLt
  have := d.isLt
  fin_cases g <;> pointwise (disch := omega) [k0_pay9, k0_pay7, dif_pos, dif_neg]
  all_goals exact at_ix2 _ (by simp only; omega) (by simp only; try omega)

theorem pay11_apply (x : Vec Ideal S2x128x512 .f32) (wq : Vec Ideal S512x512 .f32) (g : Fin 4) (i : Fin 128) (d : Fin 64) :
    k0_pay11 (F := Ideal) x wq (ix2 ⟨g.val * 128 + i.val, by omega⟩ d) = k0_pay6 (F := Ideal) x wq (ix2 ⟨128 + i.val, by omega⟩ ⟨g.val * 64 + d.val, by omega⟩) := by
  have := i.isLt
  have := d.isLt
  fin_cases g <;> pointwise (disch := omega) [k0_pay11, k0_pay10, dif_pos, dif_neg]
  all_goals exact at_ix2 _ (by simp only; omega) (by simp only; try omega)

theorem pay12_apply (x : Vec Ideal S2x128x512 .f32) (wq : Vec Ideal S512x512 .f32) (g : Fin 4) (i : Fin 128) (d : Fin 64) :
    k0_pay12 (F := Ideal) x wq (ix2 ⟨g.val * 128 + i.val, by omega⟩ d) = k0_pay6 (F := Ideal) x wq (ix2 ⟨128 + i.val, by omega⟩ ⟨(4 + g.val) * 64 + d.val, by omega⟩) := by
  have := i.isLt
  have := d.isLt
  fin_cases g <;> pointwise (disch := omega) [k0_pay12, k0_pay10, dif_pos, dif_neg]
  all_goals exact at_ix2 _ (by simp only; omega) (by simp only; try omega)

theorem pay17_apply (q : FVec Ideal S512x64 .bf16) (k : Vec Ideal S1x128x64 .i8) (r : Fin 512) (t : Fin 128) :
    k0_pay17 (F := Ideal) q k (ix2 r t) = Ideal.exp ((∑ d : Fin 64, q (ix2 r d) * FloatOps.sitofp (F := Ideal) .bf16 (k (ix3 0 t d))) * Ideal.ofBits .f32 0x3C000000#32) := by
  pointwise [k0_pay17, dot_S512x64_S128x64_S512x128_1_1_0_0_n_n]

theorem pay18_apply (q : FVec Ideal S512x64 .bf16) (l : FVec Ideal S512x1 .f32) (k : Vec Ideal S1x128x64 .i8) (r : Fin 512) :
    k0_pay18 (F := Ideal) q l k (ix2 r 0) = l (ix2 r 0) + ∑ t : Fin 128, k0_pay17 (F := Ideal) q k (ix2 r t) := by
  pointwise [k0_pay18]

theorem pay19_apply (q : FVec Ideal S512x64 .bf16) (k : Vec Ideal S1x128x64 .i8) (r : Fin 512) (t : Fin 128) :
    k0_pay19 (F := Ideal) q k (ix3 0 r t) = k0_pay17 (F := Ideal) q k (ix2 r t) := by
  pointwise [k0_pay19]

theorem pay13_apply (r : Fin 512) : k0_pay13 (F := Ideal) (ix2 r 0) = 0 := by
  pointwise [k0_pay13]

/-- A pair's weighted means. -/
def mean (l : FVec Ideal S512x1 .f32) (v : Vec Ideal S1x1024x64 .bf16) (p : Vec Ideal S1x512x1024 .bf16) : FVec Ideal S512x64 .f32 :=
  divf (matmul (φ₁ := .bf16) (φ₂ := .bf16) dot_S512x1024_S1024x64_S512x64_1_0_0_1_n_n none (shapeCast S512x1024 p shapeCasts_S1x512x1024_S512x1024) (shapeCast S1024x64 v shapeCasts_S1x1024x64_S1024x64) (constant S512x64 .f32 0x00000000#32)) (broadcastTo S512x64 l broadcasts_S512x1_S512x64)

theorem mean_apply (l : FVec Ideal S512x1 .f32) (v : Vec Ideal S1x1024x64 .bf16) (p : Vec Ideal S1x512x1024 .bf16) (r : Fin 512) (d : Fin 64) :
    mean l v p (ix2 r d) = Ideal.div (∑ t : Fin 1024, p (ix3 0 r t) * v (ix3 0 t d)) (l (ix2 r 0)) := by
  pointwise [mean, dot_S512x1024_S1024x64_S512x64_1_0_0_1_n_n]

/-- The eight heads' means side by side. -/
def side (y z : FVec Ideal S512x64 .f32) : FVec Ideal S128x512 .f32 :=
  concatenate S128x512 1 [⟨S128x64, extractStridedSlice S128x64 ![0, 0] y slices_S512x64_o0_0_S128x64⟩, ⟨S128x64, extractStridedSlice S128x64 ![128, 0] y slices_S512x64_o128_0_S128x64⟩, ⟨S128x64, extractStridedSlice S128x64 ![256, 0] y slices_S512x64_o256_0_S128x64⟩, ⟨S128x64, extractStridedSlice S128x64 ![384, 0] y slices_S512x64_o384_0_S128x64⟩, ⟨S128x64, extractStridedSlice S128x64 ![0, 0] z slices_S512x64_o0_0_S128x64⟩, ⟨S128x64, extractStridedSlice S128x64 ![128, 0] z slices_S512x64_o128_0_S128x64⟩, ⟨S128x64, extractStridedSlice S128x64 ![256, 0] z slices_S512x64_o256_0_S128x64⟩, ⟨S128x64, extractStridedSlice S128x64 ![384, 0] z slices_S512x64_o384_0_S128x64⟩] concatenates_S128x64_S128x64_S128x64_S128x64_S128x64_S128x64_S128x64_S128x64_S128x512_d1

theorem side_apply (y z : FVec Ideal S512x64 .f32) (i : Fin 128) (kv : Fin 2) (g : Fin 4) (d : Fin 64) :
    side y z (ix2 i ⟨(kv.val * 4 + g.val) * 64 + d.val, by omega⟩) = (![y, z] kv) (ix2 ⟨g.val * 128 + i.val, by omega⟩ d) := by
  have := i.isLt
  have := d.isLt
  fin_cases kv <;> fin_cases g <;> pointwise (disch := omega) [side, dif_pos, dif_neg]
  all_goals exact at_ix2 _ (by simp only; try omega) (by simp only; try omega)

theorem pay122_apply (l0 l1 : FVec Ideal S512x1 .f32) (wo : Vec Ideal S512x512 .f32) (v0 v1 : Vec Ideal S1x1024x64 .bf16) (p0 p1 : Vec Ideal S1x512x1024 .bf16) (i : Fin 128) (n : Fin 512) :
    k0_pay123 (F := Ideal) (k0_pay122 l0 l1 wo v0 p0 v1 p1) (ix3 0 i n) = ∑ e : Fin 512, side (mean l0 v0 p0) (mean l1 v1 p1) (ix2 i e) * wo (ix2 e n) := by
  have h : k0_pay122 (F := Ideal) l0 l1 wo v0 p0 v1 p1 = truncf .bf16 (matmul dot_S128x512_S512x512_S128x512_1_0_0_1_n_n none (truncf .bf16 (side (mean l0 v0 p0) (mean l1 v1 p1)) bitsLt_bf16_f32) (truncf .bf16 wo bitsLt_bf16_f32) (constant S128x512 .f32 0x00000000#32)) bitsLt_bf16_f32 := rfl
  rw [h]
  pointwise [k0_pay123, dot_S128x512_S512x512_S128x512_1_0_0_1_n_n]

theorem pay124_apply (l0 l1 : FVec Ideal S512x1 .f32) (wo : Vec Ideal S512x512 .f32) (v0 v1 : Vec Ideal S1x1024x64 .bf16) (p0 p1 : Vec Ideal S1x512x1024 .bf16) (i : Fin 128) (n : Fin 512) :
    k0_pay124 (F := Ideal) l0 l1 (k0_pay121 wo) v0 p0 v1 p1 (ix3 0 i n) = ∑ e : Fin 512, side (mean l0 v0 p0) (mean l1 v1 p1) (ix2 i e) * wo (ix2 e n) :=
  pay122_apply l0 l1 wo v0 v1 p0 p1 i n

end Cert.KernelIdeal.Coll

end
-- ==== Proof.Formula.lean ====
/- What both programs compute, as one formula of the whole arrays: x, Wq, K, V and Wo. -/
module

public import Idealize.ShloMosaic.Lib.Pointwise.Index
public import proofs.«01_k».proof.Proof.Scalars

@[expose] public section

noncomputable section

namespace Cert.Formula

open Idealize.ShloMosaic

variable (x : (⟨3, ![2, 128, 512]⟩ : Shape).Idx → EReal) (wq : (⟨2, ![512, 512]⟩ : Shape).Idx → EReal)
  (k v : (⟨4, ![2, 1024, 2, 64]⟩ : Shape).Idx → EReal) (wo : (⟨2, ![512, 512]⟩ : Shape).Idx → EReal)

/-- Entry `d` of the query of row `i` and head `h` in batch `b`. -/
def query (b : Fin 2) (h : Fin 8) (i : Fin 128) (d : Fin 64) : EReal :=
  ∑ e : Fin 512, x (ix3 b i e) * wq (ix2 e ⟨h.val * 64 + d.val, by omega⟩)

/-- The score of that query against key `t`, whose entries are their levels over sixteen. -/
def score (b : Fin 2) (h : Fin 8) (i : Fin 128) (t : Fin 1024) : EReal :=
  (∑ d : Fin 64, query x wq b h i d * (((Scalars.level (k (ix4 b t ⟨h.val / 4, by omega⟩ d)) : ℤ) : ℝ) : EReal)) * Ideal.ofBits .f32 0x3C000000#32

/-- The mean of V's entries `d` over all keys, weighted by the exponentials of the scores. -/
def mean (b : Fin 2) (h : Fin 8) (i : Fin 128) (d : Fin 64) : EReal :=
  Ideal.div (∑ t : Fin 1024, Ideal.exp (score x wq k b h i t) * v (ix4 b t ⟨h.val / 4, by omega⟩ d)) (∑ t : Fin 1024, Ideal.exp (score x wq k b h i t))

/-- The result: the heads' means side by side, projected. -/
def formula (b : Fin 2) (i : Fin 128) (n : Fin 512) : EReal :=
  ∑ e : Fin 512, mean x wq k v b ⟨e.val / 64, by omega⟩ i ⟨e.val % 64, by omega⟩ * wo (ix2 e n)

/-- Where x and Wq are real so is every score, and it is the reference's: an eighth of the product with the keys' entries. -/
theorem score_real (hx : ∀ i, ∃ r : ℝ, x i = r) (hw : ∀ i, ∃ r : ℝ, wq i = r) (b : Fin 2) (h : Fin 8) (i : Fin 128) :
    ∃ s : Fin 1024 → ℝ, (∀ t, score x wq k b h i t = ((s t : ℝ) : EReal))
      ∧ ∀ t, (∑ d : Fin 64, query x wq b h i d * ((((Scalars.level (k (ix4 b t ⟨h.val / 4, by omega⟩ d)) : ℤ) : ℝ) : EReal) * Ideal.ofBits .f32 0x3D800000#32))
        * Ideal.ofBits .f32 0x3E000000#32 = ((s t : ℝ) : EReal) := by
  have hq : ∀ d, ∃ r : ℝ, query x wq b h i d = r := fun d => Scalars.sum_real _ _ (fun _ => hx _) (fun _ => hw _)
  choose q hq using hq
  refine ⟨fun t => (∑ d, q d * (Scalars.level (k (ix4 b t ⟨h.val / 4, by omega⟩ d)) : ℝ)) * (1 / 128), fun t => ?_, fun t => ?_⟩
  · unfold score
    simp only [hq, Scalars.c_1_128]
    exact (Scalars.score_eq _ _).2
  · simp only [hq, Scalars.c_1_16, Scalars.c_1_8]
    exact (Scalars.score_eq _ _).1

end Cert.Formula

end
-- ==== Proof.IdealValue.lean ====
/- The kernel's result on a device is the formula of the whole arrays.

   The keys a device holds are in the order of its slots; slot `s` is the shard of device `srcOf c s`, so a sum over the
   slots is a sum over the devices, and one over the whole key axis. -/
module

public import proofs.«01_k».proof.Proof.IdealProtocol
public import proofs.«01_k».proof.Proof.IdealPay
public import proofs.«01_k».proof.Proof.Formula

@[expose] public section

noncomputable section

namespace Cert.KernelIdeal.Coll

open Cert.KernelIdeal Cert.KernelIdeal.Gen
open Idealize.ShloMosaic

/-! ## Sums in the order of the slots -/

/-- Every device is in one slot. -/
theorem srcOf_bijective (c : Dev nD) : Function.Bijective (srcOf c) := by
  revert c; decide

/-- The sum over a device's slots is the sum over all keys. -/
theorem sum_slots {M : Type} [AddCommMonoid M] (c : Dev nD) (f : Fin 1024 → M) :
    ∑ s : Fin 8, ∑ r : Fin 128, f ⟨(srcOf c s).val * 128 + r.val, by have : (srcOf c s).val < 8 := (srcOf c s).isLt; omega⟩ = ∑ t, f t := by
  rw [show (∑ t, f t) = ∑ s : Fin 8, ∑ r : Fin 128, f ⟨s.val * 128 + r.val, by omega⟩ from ?_]
  · exact Function.Bijective.sum_comp (srcOf_bijective c) fun s : Fin 8 => ∑ r : Fin 128, f ⟨s.val * 128 + r.val, by omega⟩
  · rw [← Scalars.sum_blocks fun s r => f ⟨s.val * 128 + r.val, by omega⟩]
    exact Finset.sum_congr rfl fun t _ => congrArg f (Fin.ext (by simp only; omega))

variable (m : (ℓ : Loc nD τ sig) → Buf (Elt Ideal) ℓ)

/-! ## The blocks a device reads -/

theorem at_ix3 {α : Type} {a b c : ℕ} (f : (⟨3, ![a, b, c]⟩ : Shape).Idx → α) {i i' : Fin a} {j j' : Fin b} {k k' : Fin c} (h : i.val = i'.val) (h' : j.val = j'.val) (h'' : k.val = k'.val) :
    f (ix3 i j k) = f (ix3 i' j' k') := by
  rw [Fin.ext h, Fin.ext h', Fin.ext h'']

theorem at_ix4 {α : Type} {a b c e : ℕ} (f : (⟨4, ![a, b, c, e]⟩ : Shape).Idx → α) {i i' : Fin a} {j j' : Fin b} {k k' : Fin c} {l l' : Fin e} (h : i.val = i'.val) (h' : j.val = j'.val) (h'' : k.val = k'.val) (h3 : l.val = l'.val) :
    f (ix4 i j k l) = f (ix4 i' j' k' l') := by
  rw [Fin.ext h, Fin.ext h', Fin.ext h'', Fin.ext h3]

/-- Where a slot's row lies in the gathered array. -/
theorem gat_apply {α : Type} (st : Dev nD → S2x128x128.Idx → α) (c : Dev nD) (b : Fin 2) (s : Fin 8) (r : Fin 128) (e : Fin 128) :
    gat st c (ix3 b ⟨128 * s.val + r.val, by omega⟩ e) = st (srcOf c s) (ix3 b r e) := by
  have key : ∀ (s' : Fin 8) (r' : Fin 128), s'.val = s.val → r'.val = r.val → st (srcOf c s') (ValueIdx.ix3 b r' e) = st (srcOf c s) (ix3 b r e) :=
    fun s' r' h h' => by rw [Fin.ext h, Fin.ext h', ← ix3_eq_valueIdx]
  exact key ⟨(128 * s.val + r.val) / 128, by omega⟩ ⟨(128 * s.val + r.val) % 128, by omega⟩ (by simp only; omega) (by simp only; omega)

theorem kblk_level (c : Dev nD) (s : Fin 8) (j : Fin 4) (r : Fin 128) (d : Fin 64) :
    FloatOps.sitofp (F := Ideal) .bf16 (kblk m c s j (ix3 0 r d))
      = (((Scalars.level (kIn m (srcOf c s) (ix4 ⟨j.val / 2, by omega⟩ r ⟨j.val % 2, by omega⟩ d)) : ℤ) : ℝ) : EReal) := by
  have h : kblk m c s j (ix3 0 r d) = gatK m c (ix3 ⟨j.val / 2, by omega⟩ ⟨128 * s.val + r.val, by omega⟩ ⟨64 * (j.val % 2) + d.val, by omega⟩) := by
    show View.ld (gatK m c) (kbR s j) (ix3 0 r d) = _
    pointwise
  rw [h, gatK, gat_apply, stK, pay1_level]
  exact congrArg (fun a => (((Scalars.level a : ℤ) : ℝ) : EReal)) (at_ix4 _ rfl rfl (by simp only; omega) (by simp only; omega))

theorem vblk_apply (c : Dev nD) (j : Fin 4) (s : Fin 8) (r : Fin 128) (d : Fin 64) :
    vblk m c j (ix3 0 ⟨128 * s.val + r.val, by omega⟩ d) = vIn m (srcOf c s) (ix4 ⟨j.val / 2, by omega⟩ r ⟨j.val % 2, by omega⟩ d) := by
  have h : vblk m c j (ix3 0 ⟨128 * s.val + r.val, by omega⟩ d) = gatV m c (ix3 ⟨j.val / 2, by omega⟩ ⟨128 * s.val + r.val, by omega⟩ ⟨64 * (j.val % 2) + d.val, by omega⟩) := by
    show View.ld (gatV m c) (vbR j) (ix3 0 ⟨128 * s.val + r.val, by omega⟩ d) = _
    pointwise
  rw [h, gatV, gat_apply, stV, pay3_apply]
  exact at_ix4 _ rfl rfl (by simp only; omega) (by simp only; omega)

theorem pbig_apply (c : Dev nD) (j : Fin 4) (R : Fin 512) (s : Fin 8) (r : Fin 128) :
    pbig m c j (ix3 0 R ⟨128 * s.val + r.val, by omega⟩) = k0_pay17 (qs m c j) (kblk m c s j) (ix2 R r) := by
  have h : pbig m c j (ix3 0 R ⟨128 * s.val + r.val, by omega⟩) = wts m c (ix3 j R ⟨128 * s.val + r.val, by omega⟩) := by
    show View.ld (wts m c) (pbR j) (ix3 0 R ⟨128 * s.val + r.val, by omega⟩) = _
    pointwise
  rw [h]
  rw [← pay19_apply]
  have key : ∀ (s' : Fin 8) (r' : Fin 128), s'.val = s.val → r'.val = r.val → pblk m c s' j (ValueIdx.ix3 0 R r') = pblk m c s j (ix3 0 R r) :=
    fun s' r' h h' => by rw [Fin.ext h, Fin.ext h', ← ix3_eq_valueIdx]
  exact key ⟨(128 * s.val + r.val) / 128, by omega⟩ ⟨(128 * s.val + r.val) % 128, by omega⟩ (by simp only; omega) (by simp only; omega)

/-- Row `g * 128 + i` of pair `j`'s stacked queries is row `i` of head `(j % 2) * 4 + g` in batch `j / 2`. -/
theorem qs_apply (c : Dev nD) (j g : Fin 4) (i : Fin 128) (d : Fin 64) :
    qs m c j (ix2 ⟨g.val * 128 + i.val, by omega⟩ d)
      = Formula.query (xIn m c) (wqIn m c) ⟨j.val / 2, by omega⟩ ⟨j.val % 2 * 4 + g.val, by omega⟩ i d := by
  unfold Formula.query qs
  fin_cases j
  · refine (pay8_apply (xIn m c) (wqIn m c) g i d).trans ((pay6_apply _ _ _ _).trans (Finset.sum_congr rfl fun e _ => congrArg₂ (· * ·) (at_ix3 _ ?_ ?_ rfl) (at_ix2 _ rfl ?_))) <;> simp only <;> omega
  · refine (pay9_apply (xIn m c) (wqIn m c) g i d).trans ((pay6_apply _ _ _ _).trans (Finset.sum_congr rfl fun e _ => congrArg₂ (· * ·) (at_ix3 _ ?_ ?_ rfl) (at_ix2 _ rfl ?_))) <;> simp only <;> omega
  · refine (pay11_apply (xIn m c) (wqIn m c) g i d).trans ((pay6_apply _ _ _ _).trans (Finset.sum_congr rfl fun e _ => congrArg₂ (· * ·) (at_ix3 _ ?_ ?_ rfl) (at_ix2 _ rfl ?_))) <;> simp only <;> omega
  · refine (pay12_apply (xIn m c) (wqIn m c) g i d).trans ((pay6_apply _ _ _ _).trans (Finset.sum_congr rfl fun e _ => congrArg₂ (· * ·) (at_ix3 _ ?_ ?_ rfl) (at_ix2 _ rfl ?_))) <;> simp only <;> omega

/-! ## The whole arrays -/

/-- The devices hold the whole x, Wq and Wo, and one block each of K and V along the keys. -/
structure Shards (x : S2x128x512.Idx → EReal) (wq : S512x512.Idx → EReal) (k v : (⟨4, ![2, 1024, 2, 64]⟩ : Shape).Idx → EReal) (wo : S512x512.Idx → EReal) : Prop where
  x_eq : ∀ c, xIn m c = x
  wq_eq : ∀ c, wqIn m c = wq
  k_eq : ∀ (c : Dev nD) (b : Fin 2) (r : Fin 128) (h : Fin 2) (d : Fin 64), kIn m c (ix4 b r h d) = k (ix4 b ⟨c.val * 128 + r.val, by have : c.val < 8 := c.isLt; omega⟩ h d)
  v_eq : ∀ (c : Dev nD) (b : Fin 2) (r : Fin 128) (h : Fin 2) (d : Fin 64), vIn m c (ix4 b r h d) = v (ix4 b ⟨c.val * 128 + r.val, by have : c.val < 8 := c.isLt; omega⟩ h d)
  wo_eq : ∀ c, woIn m c = wo

variable {m} {x : S2x128x512.Idx → EReal} {wq : S512x512.Idx → EReal} {k v : (⟨4, ![2, 1024, 2, 64]⟩ : Shape).Idx → EReal} {wo : S512x512.Idx → EReal}
variable (H : Shards m x wq k v wo)
include H

/-- A weight is the exponential of a score. -/
theorem weight_eq (c : Dev nD) (s : Fin 8) (j g : Fin 4) (i : Fin 128) (r : Fin 128) :
    k0_pay17 (qs m c j) (kblk m c s j) (ix2 ⟨g.val * 128 + i.val, by omega⟩ r)
      = Ideal.exp (Formula.score x wq k ⟨j.val / 2, by omega⟩ ⟨j.val % 2 * 4 + g.val, by omega⟩ i ⟨(srcOf c s).val * 128 + r.val, by have : (srcOf c s).val < 8 := (srcOf c s).isLt; omega⟩) := by
  rw [pay17_apply]
  unfold Formula.score
  refine congrArg (fun a => Ideal.exp (a * _)) (Finset.sum_congr rfl fun d _ => ?_)
  rw [qs_apply, kblk_level, H.x_eq, H.wq_eq, H.k_eq]
  refine congrArg (fun a => _ * (((Scalars.level a : ℤ) : ℝ) : EReal)) (at_ix4 _ rfl rfl ?_ rfl)
  simp only; omega

omit H in
theorem lnext_apply (c : Dev nD) (l : Fin 4 → FVec Ideal S512x1 .f32) (s : Fin 8) (j : Fin 4) (R : Fin 512) :
    lnext m c l s j (ix2 R 0) = l j (ix2 R 0) + ∑ r : Fin 128, k0_pay17 (qs m c j) (kblk m c s j) (ix2 R r) := by
  rw [← pay18_apply]
  fin_cases j <;> rfl

omit H in
theorem lall_apply (c : Dev nD) (j : Fin 4) (R : Fin 512) :
    lall m c j (ix2 R 0) = ∑ s : Fin 8, ∑ r : Fin 128, k0_pay17 (qs m c j) (kblk m c s j) (ix2 R r) := by
  have h0 : (![k0_pay13 (F := Ideal), k0_pay14, k0_pay15, k0_pay16] : Fin 4 → FVec Ideal S512x1 .f32) j (ix2 R 0) = 0 := by
    fin_cases j <;> exact pay13_apply R
  unfold lall arr
  simp only [List.foldl_cons, List.foldl_nil, lnext_apply, lown, h0, zero_add]
  have key : ∀ f : Fin 8 → EReal, f 7 + f (os 0) + f (os 2) + f (os 3) + f (os 1) + f (os 4) + f (os 6) + f (os 5) = ∑ s, f s := fun f => by
    rw [Fin.sum_univ_eight]
    show f 7 + f 0 + f 2 + f 3 + f 1 + f 4 + f 6 + f 5 = _
    ac_rfl
  exact key fun s => ∑ r : Fin 128, k0_pay17 (qs m c j) (kblk m c s j) (ix2 R r)

/-- A pair's mean is the formula's. -/
theorem mean_eq (c : Dev nD) (j g : Fin 4) (i : Fin 128) (d : Fin 64) :
    mean (lall m c j) (vblk m c j) (pbig m c j) (ix2 ⟨g.val * 128 + i.val, by omega⟩ d)
      = Formula.mean x wq k v ⟨j.val / 2, by omega⟩ ⟨j.val % 2 * 4 + g.val, by omega⟩ i d := by
  rw [mean_apply, lall_apply]
  unfold Formula.mean
  refine congrArg₂ Ideal.div ?_ ?_
  · refine (Scalars.sum_positions _).trans (Eq.trans ?_ (sum_slots c _))
    refine Finset.sum_congr rfl fun s _ => Finset.sum_congr rfl fun r _ => ?_
    rw [pbig_apply, vblk_apply, weight_eq H, H.v_eq]
    refine congrArg (_ * ·) (at_ix4 _ rfl rfl ?_ rfl)
    simp only; omega
  · rw [← sum_slots c]
    exact Finset.sum_congr rfl fun s _ => Finset.sum_congr rfl fun r _ => weight_eq H c s j g i r

/-- The kernel's result is the formula. -/
theorem out_formula (c : Dev nD) (b : Fin 2) (i : Fin 128) (n : Fin 512) : out m c (ix3 b i n) = Formula.formula x wq k v wo b i n := by
  have key : ∀ (j0 j1 : Fin 4) (h0 : j0.val = b.val * 2) (h1 : j1.val = b.val * 2 + 1),
      (∑ e : Fin 512, side (mean (lall m c j0) (vblk m c j0) (pbig m c j0)) (mean (lall m c j1) (vblk m c j1) (pbig m c j1)) (ix2 i e) * woIn m c (ix2 e n))
        = Formula.formula x wq k v wo b i n := fun j0 j1 h0 h1 => by
    unfold Formula.formula
    refine Finset.sum_congr rfl fun e _ => ?_
    rw [H.wo_eq]
    refine congrArg (· * _) ?_
    have he : e = ⟨((⟨e.val / 256, by omega⟩ : Fin 2).val * 4 + (⟨e.val / 64 % 4, by omega⟩ : Fin 4).val) * 64 + (⟨e.val % 64, by omega⟩ : Fin 64).val, by simp only; omega⟩ := Fin.ext (by simp only; omega)
    refine (congrArg (fun e' => side _ _ (ix2 i e')) he).trans ((side_apply _ _ _ _ _ _).trans ?_)
    rcases (by omega : e.val / 256 = 0 ∨ e.val / 256 = 1) with hq | hq
    · rw [show (⟨e.val / 256, by omega⟩ : Fin 2) = 0 from Fin.ext hq]
      refine (mean_eq H c j0 ⟨e.val / 64 % 4, by omega⟩ i _).trans ?_
      congr 1 <;> apply Fin.ext <;> simp only <;> omega
    · rw [show (⟨e.val / 256, by omega⟩ : Fin 2) = 1 from Fin.ext hq]
      refine (mean_eq H c j1 ⟨e.val / 64 % 4, by omega⟩ i _).trans ?_
      congr 1 <;> apply Fin.ext <;> simp only <;> omega
  rcases (by omega : b = 0 ∨ b = 1) with rfl | rfl
  · have h : out m c (ix3 0 i n) = out0 m c (ix3 0 i n) := by
      show (if (0 : ℕ) = 0 then out0 m c (ValueIdx.ix3 0 i n) else out1 m c (ValueIdx.ix3 0 i n)) = _
      rw [if_pos rfl, ← ix3_eq_valueIdx]
    rw [h, out0, pay122_apply]
    exact key 0 1 rfl rfl
  · have h : out m c (ix3 1 i n) = out1 m c (ix3 0 i n) := by
      show (if (1 : ℕ) = 0 then out0 m c (ValueIdx.ix3 0 i n) else out1 m c (ValueIdx.ix3 0 i n)) = _
      rw [if_neg (by decide), ← ix3_eq_valueIdx]
    rw [h, out1, pay124_apply]
    exact key 2 3 rfl rfl

end Cert.KernelIdeal.Coll

end
-- ==== Proof.RefValue.lean ====
/- The reference's value, read at an index.

   The reference's composed term is cut in three: the scaled scores of every head, the weights (the exponential of a
   score less its row's maximum), and the result. Each is read at an index as sums over the inputs' entries. -/
module

public import proofs.«01_k».proof.Proof.Gen.ReferenceIdeal.Run
public import Idealize.ShloMosaic.Lib.Pointwise
public import proofs.«01_k».proof.Proof.Formula

@[expose] public section

noncomputable section

namespace Cert.ReferenceIdeal.Value

open Cert.ReferenceIdeal Cert.ReferenceIdeal.Gen Idealize.ShloMosaic

/-- K through the quantiser and back: sixteen times the entry, clipped, rounded, and divided by sixteen. -/
def deq (k : FVec Ideal S2x1024x2x64 .f32) : FVec Ideal S2x1024x2x64 .f32 :=
  mulf (Host.roundeven (minimumf (broadcastInDim S2x1024x2x64 ![] bcast_S_S2x1024x2x64 (sitofp .f32 (constantI S_ 32 127#32))) (maximumf (broadcastInDim S2x1024x2x64 ![] bcast_S_S2x1024x2x64 (sitofp .f32 (constantI S_ 32 4294967169#32))) (mulf k (broadcastInDim S2x1024x2x64 ![] bcast_S_S2x1024x2x64 (constant S_ .f32 0x41800000#32)))))) (broadcastInDim S2x1024x2x64 ![] bcast_S_S2x1024x2x64 (constant S_ .f32 0x3D800000#32))

/-- Each key/value head repeated for the four query heads it serves. -/
def heads (k : FVec Ideal S2x1024x2x64 .f32) : FVec Ideal S2x1024x8x64 .f32 :=
  shapeCast _ (broadcastInDim S2x1024x2x4x64 ![0, 1, 2, 4] bcast_S2x1024x2x64_S2x1024x2x4x64_0_1_2_4 k) shapeCasts_S2x1024x2x4x64_S2x1024x8x64

/-- The queries. -/
def queries (x : FVec Ideal S2x128x512 .f32) (wq : FVec Ideal S512x512 .f32) : FVec Ideal S2x128x8x64 .f32 :=
  shapeCast _ (Host.dotGeneral dot_S256x512_S512x512_S256x512_1_0_0_1_n_n none (shapeCast _ x shapeCasts_S2x128x512_S256x512) wq) shapeCasts_S256x512_S2x128x8x64

/-- The scaled scores. -/
def scores (q : FVec Ideal S2x128x8x64 .f32) (k : FVec Ideal S2x1024x8x64 .f32) : FVec Ideal S2x8x128x1024 .f32 :=
  mulf (Host.dotGeneral dot_S2x128x8x64_S2x1024x8x64_S2x8x128x1024_3_3_1_1_02_02 none q k) (broadcastInDim S2x8x128x1024 ![] bcast_S_S2x8x128x1024 (constant S_ .f32 0x3E000000#32))

/-- Each row's largest score. -/
def rowMax (s : FVec Ideal S2x8x128x1024 .f32) : FVec Ideal S2x8x128 .f32 :=
  Host.reduce FloatOps.maximumf s (constant S_ .f32 0xFF800000#32) reducesTo_S2x8x128x1024_S2x8x128_d3 h_S_

/-- The weights: the exponential of a score less its row's largest. -/
def weights (s : FVec Ideal S2x8x128x1024 .f32) : FVec Ideal S2x8x128x1024 .f32 :=
  Host.exp (subf s (broadcastInDim S2x8x128x1024 ![0, 1, 2, 3] bcast_S2x8x128x1_S2x8x128x1024_0_1_2_3 (broadcastInDim S2x8x128x1 ![0, 1, 2] bcast_S2x8x128_S2x8x128x1_0_1_2 (rowMax s))))

/-- The weighted means of V, projected. -/
def result (v : FVec Ideal S2x1024x8x64 .f32) (p : FVec Ideal S2x8x128x1024 .f32) (wo : FVec Ideal S512x512 .f32) : FVec Ideal S2x128x512 .bf16 :=
  truncf .bf16 (Host.dotGeneral dot_S2x128x512_S512x512_S2x128x512_2_0_01_1_n_n none (shapeCast _ (Host.divf (transpose S2x128x8x64 [0, 3, 1, 2] (Host.dotGeneral dot_S2x1024x8x64_S2x8x128x1024_S2x8x64x128_1_3_3_2_02_01 none v p) transposes_S2x8x64x128_S2x128x8x64_0_3_1_2) (broadcastInDim S2x128x8x64 ![0, 1, 2, 3] bcast_S2x128x8x1_S2x128x8x64_0_1_2_3 (transpose S2x128x8x1 [0, 2, 1, 3] (broadcastInDim S2x8x128x1 ![0, 1, 2] bcast_S2x8x128_S2x8x128x1_0_1_2 (Host.reduceAdd p (constant S_ .f32 0x00000000#32) reducesTo_S2x8x128x1024_S2x8x128_d3 h_S_)) transposes_S2x8x128x1_S2x128x8x1_0_2_1_3))) shapeCasts_S2x128x8x64_S2x128x512) wo) bitsLt_bf16_f32

/-- The reference's result is these steps in turn. -/
theorem res_eq (m : (ℓ : Loc nD τ sig) → Buf (Elt Ideal) ℓ) (c : Dev nD) :
    (res_main_v30 m c : FVec Ideal S2x128x512 .bf16) = result (heads (m ((c.tc : Thread nD τ).loc main_arg3)))
      (weights (scores (queries (m ((c.tc : Thread nD τ).loc main_arg0)) (m ((c.tc : Thread nD τ).loc main_arg1)))
        (heads (deq (m ((c.tc : Thread nD τ).loc main_arg2))))))
      (m ((c.tc : Thread nD τ).loc main_arg4)) := rfl

theorem heads_apply (k : FVec Ideal S2x1024x2x64 .f32) (b : Fin 2) (t : Fin 1024) (h : Fin 8) (d : Fin 64) :
    heads k (ix4 b t h d) = k (ix4 b t ⟨h.val / 4, by omega⟩ d) := by
  pointwise [heads]

theorem queries_apply (x : FVec Ideal S2x128x512 .f32) (wq : FVec Ideal S512x512 .f32) (b : Fin 2) (i : Fin 128) (h : Fin 8) (d : Fin 64) :
    queries x wq (ix4 b i h d) = ∑ e : Fin 512, x (ix3 b i e) * wq (ix2 e ⟨h.val * 64 + d.val, by omega⟩) := by
  pointwise [queries, dot_S256x512_S512x512_S256x512_1_0_0_1_n_n]

theorem scores_apply (q : FVec Ideal S2x128x8x64 .f32) (k : FVec Ideal S2x1024x8x64 .f32) (b : Fin 2) (h : Fin 8) (i : Fin 128) (t : Fin 1024) :
    scores q k (ix4 b h i t) = (∑ d : Fin 64, q (ix4 b i h d) * k (ix4 b t h d)) * Ideal.ofBits .f32 0x3E000000#32 := by
  pointwise [scores, dot_S2x128x8x64_S2x1024x8x64_S2x8x128x1024_3_3_1_1_02_02]

theorem rowMax_apply (s : FVec Ideal S2x8x128x1024 .f32) (b : Fin 2) (h : Fin 8) (i : Fin 128) :
    rowMax s (ix3 b h i) = Finset.univ.fold max (Ideal.ofBits .f32 0xFF800000#32) fun t : Fin 1024 => s (ix4 b h i t) := by
  pointwise [rowMax]

theorem weights_apply (s : FVec Ideal S2x8x128x1024 .f32) (b : Fin 2) (h : Fin 8) (i : Fin 128) (t : Fin 1024) :
    weights s (ix4 b h i t) = Ideal.exp (s (ix4 b h i t) - rowMax s (ix3 b h i)) := by
  pointwise [weights]

theorem result_apply (v : FVec Ideal S2x1024x8x64 .f32) (p : FVec Ideal S2x8x128x1024 .f32) (wo : FVec Ideal S512x512 .f32) (b : Fin 2) (i : Fin 128) (n : Fin 512) :
    result v p wo (ix3 b i n) = ∑ e : Fin 512, Ideal.div
      (∑ t : Fin 1024, v (ix4 b t ⟨e.val / 64, by omega⟩ ⟨e.val % 64, by omega⟩) * p (ix4 b ⟨e.val / 64, by omega⟩ i t))
      (∑ t : Fin 1024, p (ix4 b ⟨e.val / 64, by omega⟩ i t)) * wo (ix2 e n) := by
  pointwise [result, dot_S2x128x512_S512x512_S2x128x512_2_0_01_1_n_n, dot_S2x1024x8x64_S2x8x128x1024_S2x8x64x128_1_3_3_2_02_01]

/-- The entry of K after the quantiser is its level over sixteen. -/
theorem deq_apply (k : FVec Ideal S2x1024x2x64 .f32) (j : S2x1024x2x64.Idx) :
    deq k j = (((Scalars.level (k j) : ℤ) : ℝ) : EReal) * Ideal.ofBits .f32 0x3D800000#32 := by
  rw [← Scalars.round_clip]
  pointwise [deq, Scalars.clip]
  rfl

/-- With real queries the reference's result is the formula: the row's largest score is a real, and a real shift of the
    exponents leaves the weighted mean as it is. -/
theorem res_formula (m : (ℓ : Loc nD τ sig) → Buf (Elt Ideal) ℓ) (c : Dev nD)
    (hx : ∀ i, ∃ r : ℝ, m ((c.tc : Thread nD τ).loc main_arg0) i = (r : EReal)) (hw : ∀ i, ∃ r : ℝ, m ((c.tc : Thread nD τ).loc main_arg1) i = (r : EReal))
    (b : Fin 2) (i : Fin 128) (n : Fin 512) :
    (res_main_v30 m c : FVec Ideal S2x128x512 .bf16) (ix3 b i n) = Formula.formula (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) b i n := by
  refine (congrFun (res_eq m c) _).trans ((result_apply _ _ _ b i n).trans ?_)
  generalize m ((c.tc : Thread nD τ).loc main_arg0) = x at hx ⊢
  generalize m ((c.tc : Thread nD τ).loc main_arg1) = wq at hw ⊢
  generalize m ((c.tc : Thread nD τ).loc main_arg3) = v
  generalize m ((c.tc : Thread nD τ).loc main_arg2) = k
  unfold Formula.formula Formula.mean
  refine Finset.sum_congr rfl fun e _ => congrArg (· * _) ?_
  obtain ⟨s, hs, hr⟩ := Formula.score_real x wq k hx hw b ⟨e.val / 64, by omega⟩ i
  have h : ∀ t : Fin 1024, scores (queries x wq) (heads (deq k)) (ix4 b ⟨e.val / 64, by omega⟩ i t) = ((s t : ℝ) : EReal) := fun t => by
    rw [scores_apply]
    simp only [queries_apply, heads_apply, deq_apply]
    exact hr t
  simp only [weights_apply, rowMax_apply, heads_apply, h, hs, Scalars.c_negInf]
  exact Scalars.mean_shift (n := 1024) (Nat.succ_pos _) s fun t => v (ix4 b t ⟨e.val / 64 / 4, by omega⟩ ⟨e.val % 64, by omega⟩)

end Cert.ReferenceIdeal.Value

end
-- ==== Proof.Finite.lean ====
/- The precondition, read: every entry of x and of Wq is a real. -/
module

public import proofs.«01_k».proof.Defs
public import proofs.«01_k».proof.Proof.Scalars
public import Idealize.ShloMosaic.Lib.Pointwise

@[expose] public section

noncomputable section

namespace Cert.Finite

open Idealize.ShloMosaic

instance kernelFacts : Cert.Pre_finite_queries_KernelIdeal.Facts where
  bcast_S_S2x128x512 := by decide
  reducesTo_S2x128x512_S_d0_1_2 := by decide
  h_S_ := by decide
  bcast_S_S512x512 := by decide
  reducesTo_S512x512_S_d0_1 := by decide

instance referenceFacts : Cert.Pre_finite_queries_ReferenceIdeal.Facts where
  bcast_S_S2x128x512 := by decide
  reducesTo_S2x128x512_S_d0_1_2 := by decide
  h_S_ := by decide
  bcast_S_S512x512 := by decide
  reducesTo_S512x512_S_d0_1 := by decide

/-- Both of two bits are set where their conjunction is. -/
theorem and_one (a b : BitVec 1) (h : IntOp.andi a b = 1#1) : a = 1#1 ∧ b = 1#1 := by
  revert a b; decide

instance : Std.Commutative (IntOp.andi (w := 1)) := ⟨by decide⟩
instance : Std.Associative (IntOp.andi (w := 1)) := ⟨by decide⟩

/-- Every bit is set where the conjunction of all is. -/
theorem fold_and {ι : Type} (s : Finset ι) (a : BitVec 1) (f : ι → BitVec 1) (h : s.fold IntOp.andi a f = 1#1) : ∀ i ∈ s, f i = 1#1 := by
  classical
  induction s using Finset.induction_on with
  | empty => simp
  | insert b s hb ih =>
    rw [Finset.fold_insert hb] at h
    intro i hi
    rcases Finset.mem_insert.mp hi with rfl | hi
    · exact (and_one _ _ h).1
    · exact ih (and_one _ _ h).2 i hi

/-- A conjunction over a whole array that is set says so of every entry. -/
theorem reduce_and {s : Shape} {axes : List (Fin s.rank)} {d : Fin 0 → ℕ} {u : Shape} (x : s.Idx → BitVec 1) (init : u.Idx → BitVec 1) (h : s.ReducesTo axes ⟨0, d⟩) (hu : 0 < u.numel)
    (j : (⟨0, d⟩ : Shape).Idx) (e : Host.reduce IntOp.andi x init h hu j = 1#1) (i : s.Idx) : x i = 1#1 := by
  rw [Host.reduce_eq_fold] at e
  exact fold_and _ _ _ e i (Finset.mem_filter.mpr ⟨Finset.mem_univ _, funext fun a => a.elim0⟩)

/-- An absolute value that compares below infinity is that of a real. -/
theorem real_of_cmp (a : EReal) (h : FloatOps.cmpf (F := Ideal) (φ := .f32) .olt (max a (-a)) (Ideal.ofBits .f32 0x7F800000#32) = 1#1) : ∃ r : ℝ, a = r := by
  refine Scalars.real_of_abs_lt a ?_
  rw [Scalars.c_inf] at h
  by_contra hc
  have : decide (max a (-a) < (⊤ : EReal)) = false := decide_eq_false hc
  have h' : BitVec.ofBool (decide (max a (-a) < (⊤ : EReal))) = 1#1 := h
  rw [this] at h'
  exact absurd h' (by decide)

/-- What the precondition says of one device's x and Wq. -/
theorem real_of_fn (x : FVec Ideal ⟨3, ![2, 128, 512]⟩ .f32) (wq : FVec Ideal ⟨2, ![512, 512]⟩ .f32) (k v : FVec Ideal ⟨4, ![2, 128, 2, 64]⟩ .f32) (wo : FVec Ideal ⟨2, ![512, 512]⟩ .f32)
    (h : Cert.Pre_finite_queries_KernelIdeal.fn (F := Ideal) x wq k v wo = fun _ => 1#1) :
    (∀ i, ∃ r : ℝ, x i = r) ∧ ∀ i, ∃ r : ℝ, wq i = r := by
  have h0 := congrFun h ix0
  unfold Cert.Pre_finite_queries_KernelIdeal.fn at h0
  have h1 := and_one _ _ h0
  exact ⟨fun i => real_of_cmp _ (reduce_and _ _ _ _ _ h1.1 i), fun i => real_of_cmp _ (reduce_and _ _ _ _ _ h1.2 i)⟩

end Cert.Finite

end
-- ==== Proof.lean ====
/- The claims, put together from the runs of the three programs. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.IdealRun
public import proofs.«01_k».proof.Proof.IdealValue
public import proofs.«01_k».proof.Proof.RefValue
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The kernel's run: its arguments and every counter are as they were. -/
theorem kernel_frame : Cert.quiescent_Kernel (hKernel := Cert.Kernel.Gen.facts) := fun m g _ =>
  (θ_run _ _ _).mono (fun _ h => ⟨fun c => ⟨(h.1 c).1, (h.1 c).2.1, (h.1 c).2.2.1, (h.1 c).2.2.2.1, (h.1 c).2.2.2.2.1⟩, h.2⟩)
    (Cert.Kernel.Coll.run_main m g)

/-- So too over the extended reals. -/
theorem ideal_frame : Cert.quiescent_KernelIdeal (hKernelIdeal := Cert.KernelIdeal.Gen.facts) := fun m g _ =>
  (θ_run _ _ _).mono (fun _ h => ⟨fun c => ⟨(h.1 c).1, (h.1 c).2.1, (h.1 c).2.2.1, (h.1 c).2.2.2.1, (h.1 c).2.2.2.2.1⟩, h.2⟩)
    (Cert.KernelIdeal.Coll.run_main m g)

/-- The reference's run likewise; it has no semaphores. -/
theorem reference_frame : Cert.quiescent_ReferenceIdeal (hReferenceIdeal := Cert.ReferenceIdeal.Gen.facts) := fun m g _ =>
  (θ_run _ _ _).mono (fun r h => ⟨fun c => (h c).2, funext fun x => (match x.2 with | .reg i => i.elim0 | .dma i => i.elim0)⟩) (Cert.ReferenceIdeal.Value.run m g)

/-- Device `c`'s block of an array cut along its second axis into eight is its rows from `128 c` on. -/
theorem block_at (c : Fin 8) (v : (⟨4, ![2, 1024, 2, 64]⟩ : Shape).Idx → EReal) (b : Fin 2) (r : Fin 128) (h : Fin 2) (d : Fin 64) :
    Layout.block ⟨4, ![2, 128, 2, 64]⟩ ⟨4, ![2, 1024, 2, 64]⟩ 1 8 c v (by decide) (ix4 b r h d) = v (ix4 b ⟨c.val * 128 + r.val, by omega⟩ h d) := by
  rw [Layout.block_apply]
  refine congrArg v (funext fun a => Fin.ext ?_)
  rw [Layout.Tiles.idx_val]
  match a with
  | ⟨0, _⟩ => rfl
  | ⟨1, _⟩ => rfl
  | ⟨2, _⟩ => rfl
  | ⟨3, _⟩ => rfl

/-- On finite x and Wq every device's result is the reference's. -/
theorem algebraic : Cert.algebraic_KernelIdeal_ReferenceIdeal_pre_finite_queries_KernelIdeal (hKernelIdeal := Cert.KernelIdeal.Gen.facts)
    (hReferenceIdeal := Cert.ReferenceIdeal.Gen.facts) (hPre_finite_queries_KernelIdeal := Cert.Finite.kernelFacts) := by
  intro m g m' g' hpre hin
  have H : Cert.KernelIdeal.Coll.Shards m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x_eq := fun c => (hin c).1
      wq_eq := fun c => (hin c).2.1
      k_eq := fun c b r h d => (congrFun (hin c).2.2.1 (ix4 b r h d)).trans (block_at c _ b r h d)
      v_eq := fun c b r h d => (congrFun (hin c).2.2.2.1 (ix4 b r h d)).trans (block_at c _ b r h d)
      wo_eq := fun c => (hin c).2.2.2.2 }
  have hreal := Cert.Finite.real_of_fn _ _ _ _ _ (hpre 0)
  have hx : ∀ i, ∃ r : ℝ, m' (((0 : Dev Cert.ReferenceIdeal.nD).tc : Thread Cert.ReferenceIdeal.nD Cert.ReferenceIdeal.τ).loc Cert.ReferenceIdeal.main_arg0) i = (r : EReal) :=
    fun i => (hreal.1 i).imp fun _ e => (congrFun (hin 0).1 i).symm.trans e
  have hw : ∀ i, ∃ r : ℝ, m' (((0 : Dev Cert.ReferenceIdeal.nD).tc : Thread Cert.ReferenceIdeal.nD Cert.ReferenceIdeal.τ).loc Cert.ReferenceIdeal.main_arg1) i = (r : EReal) :=
    fun i => (hreal.2 i).imp fun _ e => (congrFun (hin 0).2.1 i).symm.trans e
  have hout : ∀ c, Cert.KernelIdeal.Coll.out m c = Cert.ReferenceIdeal.Value.res_main_v30 m' 0 := fun c => funext fun j => by
    have e := (Cert.KernelIdeal.Coll.out_formula H c (j 0) (j 1) (j 2)).trans (Cert.ReferenceIdeal.Value.res_formula m' 0 hx hw (j 0) (j 1) (j 2)).symm
    have hj : j = ix3 (j 0) (j 1) (j 2) := eq_ix3 j
    exact (congrArg (Cert.KernelIdeal.Coll.out m c) hj).trans (e.trans (congrArg (Cert.ReferenceIdeal.Value.res_main_v30 m' 0) hj).symm)
  exact ⟨Cert.ReferenceIdeal.Value.res_main_v30 m' 0,
    (θ_run _ _ _).mono (fun _ h c => ⟨(h.1 c).2.2.2.2.2.trans (hout c), (h.1 c).1, (h.1 c).2.1, (h.1 c).2.2.1, (h.1 c).2.2.2.1, (h.1 c).2.2.2.2.1⟩)
      (Cert.KernelIdeal.Coll.run_main m g),
    (θ_run _ _ _).mono (fun _ h => h 0) (Cert.ReferenceIdeal.Value.run m' g')⟩

theorem claim : Cert.Claim := ⟨Cert.Kernel.Gen.facts, Cert.KernelIdeal.Gen.facts, Cert.ReferenceIdeal.Gen.facts, Cert.Finite.kernelFacts, Cert.Finite.referenceFacts,
  kernel_frame, ideal_frame, fun m g _ => ideal_frame m g trivial, reference_frame, fun m g _ => reference_frame m g trivial, trivial, algebraic⟩

end Cert.Proof

end
